-- ==== Defs.lean ====
def Pre_Kernel [hPre_coords : Cert.Pre_coords.Facts] (m : (ℓ : Loc Cert.Kernel.nD Cert.Kernel.τ Cert.Kernel.sig) → Buf (Elt Bits) ℓ) : Prop :=
  ∀ c : Dev Cert.Kernel.nD,
    (Cert.Pre_coords.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_coords : Cert.Pre_coords.Facts] (m : (ℓ : Loc Cert.KernelIdeal.nD Cert.KernelIdeal.τ Cert.KernelIdeal.sig) → Buf (Elt Ideal) ℓ) : Prop :=
  ∀ c : Dev Cert.KernelIdeal.nD,
    (Cert.Pre_coords.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_coords : Cert.Pre_coords.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_coords : Cert.Pre_coords.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_coords : Cert.Pre_coords.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_coords : Cert.Pre_coords.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_coords : Cert.Pre_coords.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_coords : Cert.Pre_coords.Facts),
    quiescent_Kernel (hKernel := hKernel) (hPre_coords := hPre_coords)
    ∧ quiescent_KernelIdeal (hKernelIdeal := hKernelIdeal) (hPre_coords := hPre_coords)
    ∧ quiescent_ReferenceIdeal (hReferenceIdeal := hReferenceIdeal) (hPre_coords := hPre_coords)
    ∧ preserves_Kernel_KernelIdeal
    ∧ algebraic_KernelIdeal_ReferenceIdeal (hKernelIdeal := hKernelIdeal) (hReferenceIdeal := hReferenceIdeal) (hPre_coords := hPre_coords)
-- ==== Pre_coords.lean ====
abbrev S8x9x512x512 : Shape := ⟨4, ![8, 9, 512, 512]⟩
abbrev S8x16x4 : Shape := ⟨3, ![8, 16, 4]⟩
abbrev S8x16 : Shape := ⟨2, ![8, 16]⟩
abbrev S_ : Shape := ⟨0, ![]⟩

class Facts : Prop where
  bcast_S_S8x16x4 : S_.BroadcastsInDim S8x16x4 (![] : Fin 0 → Fin S8x16x4.rank)
  reducesTo_S8x16x4_S_d0_1_2 : S8x16x4.ReducesTo [0, 1, 2] S_
  h_S_ : 0 < S_.numel

variable [Facts]

def fn {F : FTy → Type} [FloatOps F] (main_arg0 : FVec F S8x9x512x512 .f32) (main_arg1 : IVec S8x16x4 32) (main_arg2 : FVec F S8x16 .f32) : IVec S_ 1 :=
  let main_c : IVec S_ 32 := constantI S_ 32 0#32
  let main_v0 : IVec S8x16x4 32 := broadcastInDim S8x16x4 ![] bcast_S_S8x16x4 main_c
  let main_v1 : IVec S8x16x4 1 := cmpi .sge main_arg1 main_v0
  let main_c_0 : IVec S_ 32 := constantI S_ 32 512#32
  let main_v2 : IVec S8x16x4 32 := broadcastInDim S8x16x4 ![] bcast_S_S8x16x4 main_c_0
  let main_v3 : IVec S8x16x4 1 := cmpi .slt main_arg1 main_v2
  let main_v4 : IVec S8x16x4 1 := andi main_v1 main_v3
  let main_c_1 : IVec S_ 1 := constantI S_ 1 1#1
  let main_v5 : IVec S_ 1 := (fun x v => Host.reduce IntOp.andi x v reducesTo_S8x16x4_S_d0_1_2 h_S_) main_v4 main_c_1
  main_v5
-- ==== Kernel.lean ====
abbrev S8x9x512x512 : Shape := ⟨4, ![8, 9, 512, 512]⟩
abbrev S8x16x4 : Shape := ⟨3, ![8, 16, 4]⟩
abbrev S8x16 : Shape := ⟨2, ![8, 16]⟩
abbrev S8x16x1 : Shape := ⟨3, ![8, 16, 1]⟩
abbrev S128 : Shape := ⟨1, ![128]⟩
abbrev S_ : Shape := ⟨0, ![]⟩
abbrev S8x16x3 : Shape := ⟨3, ![8, 16, 3]⟩
abbrev S1x8x1x16x1x3 : Shape := ⟨6, ![1, 8, 1, 16, 1, 3]⟩
abbrev S1x8x1x16x3x3 : Shape := ⟨6, ![1, 8, 1, 16, 3, 3]⟩
abbrev S8x16x9 : Shape := ⟨3, ![8, 16, 9]⟩
abbrev S8x1x16 : Shape := ⟨3, ![8, 1, 16]⟩
abbrev S8x16x16 : Shape := ⟨3, ![8, 16, 16]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S1x16x16 : Shape := ⟨3, ![1, 16, 16]⟩
abbrev S8x3x3x512x512 : Shape := ⟨5, ![8, 3, 3, 512, 512]⟩
abbrev S8x1x1 : Shape := ⟨3, ![8, 1, 1]⟩
abbrev S1x3x1x512x512 : Shape := ⟨5, ![1, 3, 1, 512, 512]⟩
abbrev S1x9x8x128 : Shape := ⟨4, ![1, 9, 8, 128]⟩
abbrev S1 : Shape := ⟨1, ![1]⟩
abbrev S1x16x9 : Shape := ⟨3, ![1, 16, 9]⟩
abbrev S1x1x1 : Shape := ⟨3, ![1, 1, 1]⟩
abbrev S3x512x512 : Shape := ⟨3, ![3, 512, 512]⟩
abbrev S1x3x512x512 : Shape := ⟨4, ![1, 3, 512, 512]⟩
abbrev S1x1x1x1 : Shape := ⟨4, ![1, 1, 1, 1]⟩
abbrev S8x128 : Shape := ⟨2, ![8, 128]⟩
abbrev S1x8x128 : Shape := ⟨3, ![1, 8, 128]⟩
abbrev S9x8x128 : Shape := ⟨3, ![9, 8, 128]⟩
abbrev S9 : Shape := ⟨1, ![9]⟩
abbrev S1x9 : Shape := ⟨2, ![1, 9]⟩
abbrev S16x9 : Shape := ⟨2, ![16, 9]⟩
abbrev S16x8 : Shape := ⟨2, ![16, 8]⟩
abbrev S16x7 : Shape := ⟨2, ![16, 7]⟩
abbrev S16x2 : Shape := ⟨2, ![16, 2]⟩

abbrev nBuf : Space → Nat
  | .hbm => 59
  | .vmem => 42
  | .smem => 2
  | _ => 0

abbrev bufTy : (tb : Table) → Fin (tcTables nBuf tb) → BufTy
  | .hbm, ⟨0, _⟩ => ⟨S8x9x512x512, .f32⟩
  | .hbm, ⟨1, _⟩ => ⟨S8x16x4, .i32⟩
  | .hbm, ⟨2, _⟩ => ⟨S8x16, .f32⟩
  | .hbm, ⟨3, _⟩ => ⟨S8x16x1, .i32⟩
  | .hbm, ⟨4, _⟩ => ⟨S8x16, .i32⟩
  | .hbm, ⟨5, _⟩ => ⟨S8x16x1, .i32⟩
  | .hbm, ⟨6, _⟩ => ⟨S8x16, .i32⟩
  | .hbm, ⟨7, _⟩ => ⟨S_, .f32⟩
  | .hbm, ⟨8, _⟩ => ⟨S8x16, .f32⟩
  | .hbm, ⟨9, _⟩ => ⟨S8x16, .f32⟩
  | .hbm, ⟨10, _⟩ => ⟨S8x16, .f32⟩
  | .hbm, ⟨11, _⟩ => ⟨S8x16x1, .f32⟩
  | .hbm, ⟨12, _⟩ => ⟨S8x16x1, .f32⟩
  | .hbm, ⟨13, _⟩ => ⟨S8x16x1, .f32⟩
  | .hbm, ⟨14, _⟩ => ⟨S8x16x3, .f32⟩
  | .hbm, ⟨15, _⟩ => ⟨S1x8x1x16x1x3, .f32⟩
  | .hbm, ⟨16, _⟩ => ⟨S1x8x1x16x3x3, .f32⟩
  | .hbm, ⟨17, _⟩ => ⟨S8x16x9, .f32⟩
  | .hbm, ⟨18, _⟩ => ⟨S8x16x1, .i32⟩
  | .hbm, ⟨19, _⟩ => ⟨S8x16, .i32⟩
  | .hbm, ⟨20, _⟩ => ⟨S8x16, .f32⟩
  | .hbm, ⟨21, _⟩ => ⟨S8x16x1, .i32⟩
  | .hbm, ⟨22, _⟩ => ⟨S8x16, .i32⟩
  | .hbm, ⟨23, _⟩ => ⟨S8x16, .f32⟩
  | .hbm, ⟨24, _⟩ => ⟨S8x16x1, .f32⟩
  | .hbm, ⟨25, _⟩ => ⟨S8x16x1, .f32⟩
  | .hbm, ⟨26, _⟩ => ⟨S8x16x1, .f32⟩
  | .hbm, ⟨27, _⟩ => ⟨S8x16x3, .f32⟩
  | .hbm, ⟨28, _⟩ => ⟨S1x8x1x16x1x3, .f32⟩
  | .hbm, ⟨29, _⟩ => ⟨S1x8x1x16x3x3, .f32⟩
  | .hbm, ⟨30, _⟩ => ⟨S8x16x9, .f32⟩
  | .hbm, ⟨31, _⟩ => ⟨S8x16x1, .i32⟩
  | .hbm, ⟨32, _⟩ => ⟨S8x1x16, .i32⟩
  | .hbm, ⟨33, _⟩ => ⟨S8x16x16, .i32⟩
  | .hbm, ⟨34, _⟩ => ⟨S8x16x16, .i32⟩
  | .hbm, ⟨35, _⟩ => ⟨S8x16x16, .i1⟩
  | .hbm, ⟨36, _⟩ => ⟨S8x16x1, .i32⟩
  | .hbm, ⟨37, _⟩ => ⟨S8x1x16, .i32⟩
  | .hbm, ⟨38, _⟩ => ⟨S8x16x16, .i32⟩
  | .hbm, ⟨39, _⟩ => ⟨S8x16x16, .i32⟩
  | .hbm, ⟨40, _⟩ => ⟨S8x16x16, .i1⟩
  | .hbm, ⟨41, _⟩ => ⟨S8x16x16, .i1⟩
  | .hbm, ⟨42, _⟩ => ⟨S16, .i32⟩
  | .hbm, ⟨43, _⟩ => ⟨S16x1, .i32⟩
  | .hbm, ⟨44, _⟩ => ⟨S16, .i32⟩
  | .hbm, ⟨45, _⟩ => ⟨S1x16, .i32⟩
  | .hbm, ⟨46, _⟩ => ⟨S16x16, .i32⟩
  | .hbm, ⟨47, _⟩ => ⟨S16x16, .i32⟩
  | .hbm, ⟨48, _⟩ => ⟨S16x16, .i1⟩
  | .hbm, ⟨49, _⟩ => ⟨S1x16x16, .i1⟩
  | .hbm, ⟨50, _⟩ => ⟨S8x16x16, .i1⟩
  | .hbm, ⟨51, _⟩ => ⟨S8x16x16, .i1⟩
  | .hbm, ⟨52, _⟩ => ⟨S8x16x16, .f32⟩
  | .hbm, ⟨53, _⟩ => ⟨S8x3x3x512x512, .f32⟩
  | .hbm, ⟨54, _⟩ => ⟨S8x1x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x3x1x512x512, .f32⟩
  | .local _ .vmem, ⟨1, _⟩ => ⟨S1x3x1x512x512, .f32⟩
  | .local _ .vmem, ⟨2, _⟩ => ⟨S1x9x8x128, .f32⟩
  | .local _ .vmem, ⟨3, _⟩ => ⟨S1x9x8x128, .f32⟩
  | .local _ .vmem, ⟨4, _⟩ => ⟨S1x9x8x128, .f32⟩
  | .local _ .vmem, ⟨5, _⟩ => ⟨S1x9x8x128, .f32⟩
  | .local _ .vmem, ⟨6, _⟩ => ⟨S1x9x8x128, .f32⟩
  | .local _ .vmem, ⟨7, _⟩ => ⟨S1x9x8x128, .f32⟩
  | .local _ .vmem, ⟨8, _⟩ => ⟨S1x9x8x128, .f32⟩
  | .local _ .vmem, ⟨9, _⟩ => ⟨S1x9x8x128, .f32⟩
  | .local _ .vmem, ⟨10, _⟩ => ⟨S1x9x8x128, .f32⟩
  | .local _ .vmem, ⟨11, _⟩ => ⟨S1x9x8x128, .f32⟩
  | .local _ .vmem, ⟨12, _⟩ => ⟨S1x9x8x128, .f32⟩
  | .local _ .vmem, ⟨13, _⟩ => ⟨S1x9x8x128, .f32⟩
  | .local _ .vmem, ⟨14, _⟩ => ⟨S1x9x8x128, .f32⟩
  | .local _ .vmem, ⟨15, _⟩ => ⟨S1x9x8x128, .f32⟩
  | .local _ .vmem, ⟨16, _⟩ => ⟨S1x9x8x128, .f32⟩
  | .local _ .vmem, ⟨17, _⟩ => ⟨S1x9x8x128, .f32⟩
  | .local _ .vmem, ⟨18, _⟩ => ⟨S1x9x8x128, .f32⟩
  | .local _ .vmem, ⟨19, _⟩ => ⟨S1x9x8x128, .f32⟩
  | .local _ .vmem, ⟨20, _⟩ => ⟨S1x9x8x128, .f32⟩
  | .local _ .vmem, ⟨21, _⟩ => ⟨S1x9x8x128, .f32⟩
  | .local _ .vmem, ⟨22, _⟩ => ⟨S1x9x8x128, .f32⟩
  | .local _ .vmem, ⟨23, _⟩ => ⟨S1x9x8x128, .f32⟩
  | .local _ .vmem, ⟨24, _⟩ => ⟨S1x9x8x128, .f32⟩
  | .local _ .vmem, ⟨25, _⟩ => ⟨S1x9x8x128, .f32⟩
  | .local _ .vmem, ⟨26, _⟩ => ⟨S1x9x8x128, .f32⟩
  | .local _ .vmem, ⟨27, _⟩ => ⟨S1x9x8x128, .f32⟩
  | .local _ .vmem, ⟨28, _⟩ => ⟨S1x9x8x128, .f32⟩
  | .local _ .vmem, ⟨29, _⟩ => ⟨S1x9x8x128, .f32⟩
  | .local _ .vmem, ⟨30, _⟩ => ⟨S1x9x8x128, .f32⟩
  | .local _ .vmem, ⟨31, _⟩ => ⟨S1x9x8x128, .f32⟩
  | .local _ .vmem, ⟨32, _⟩ => ⟨S1x9x8x128, .f32⟩
  | .local _ .vmem, ⟨33, _⟩ => ⟨S1x9x8x128, .f32⟩
  | .local _ .vmem, ⟨34, _⟩ => ⟨S1x16x9, .f32⟩
  | .local _ .vmem, ⟨35, _⟩ => ⟨S1x16x9, .f32⟩
  | .local _ .vmem, ⟨36, _⟩ => ⟨S1x16x9, .f32⟩
  | .local _ .vmem, ⟨37, _⟩ => ⟨S1x16x9, .f32⟩
  | .local _ .vmem, ⟨38, _⟩ => ⟨S1x16x16, .f32⟩
  | .local _ .vmem, ⟨39, _⟩ => ⟨S1x16x16, .f32⟩
  | .local _ .vmem, ⟨40, _⟩ => ⟨S1x1x1, .f32⟩
  | .local _ .vmem, ⟨41, _⟩ => ⟨S1x1x1, .f32⟩
  | .local _ .smem, ⟨0, _⟩ => ⟨S128, .i32⟩
  | .local _ .smem, ⟨1, _⟩ => ⟨S128, .i32⟩
  | _, _ => ⟨S8x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_cst_0 : Ref sig .tc := ⟨.hbm, 55, rfl⟩
abbrev main_v53 : Ref sig .tc := ⟨.hbm, 56, rfl⟩
abbrev main_cst_1 : Ref sig .tc := ⟨.hbm, 57, rfl⟩
abbrev main_v54 : Ref sig .tc := ⟨.hbm, 58, rfl⟩
abbrev main_v4 : Ref sig .tc := ⟨.smem, 0, rfl⟩
abbrev main_v5 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![8], ![false]⟩

abbrev pre0 : Pipeline.Prefetch sig := ⟨2, ![main_v4.idx, main_v5.idx], fun | 0 => main_v4.names | 1 => main_v5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def cc0_transform_0 (i : grid0.Coords) : Fin 5 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![arg0.toNat, c0_i32.toNat, c2_i32.toNat, c0_i32_0.toNat, c0_i32_1.toNat]

def cc0_transform_1 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S128) ![v2.toNat] S1.size (k0_off1_inb i 0)) numel1_S1
  let c8_i32 : BitVec 32 := 8#32
  let v4 : BitVec 32 := Scalar.divsi v3 c8_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 0)) numel1_S1
  let c128_i32 : BitVec 32 := 128#32
  let v23 : BitVec 32 := Scalar.divsi v22 c128_i32
  let c0_i32_5 : BitVec 32 := 0#32
  let v24 : BitVec 1 := Scalar.cmpi .sgt v22 c0_i32_5
  let v25 : BitVec 32 := Scalar.extui v24
  let c0_i32_6 : BitVec 32 := 0#32
  let v26 : BitVec 1 := Scalar.cmpi .slt v22 c0_i32_6
  let v27 : BitVec 32 := Scalar.extui v26
  let v28 : BitVec 32 := Scalar.subi v25 v27
  let c0_i32_7 : BitVec 32 := 0#32
  let v29 : BitVec 1 := Scalar.cmpi .sgt c128_i32 c0_i32_7
  let v30 : BitVec 32 := Scalar.extui v29
  let c0_i32_8 : BitVec 32 := 0#32
  let v31 : BitVec 1 := Scalar.cmpi .slt c128_i32 c0_i32_8
  let v32 : BitVec 32 := Scalar.extui v31
  let v33 : BitVec 32 := Scalar.subi v30 v32
  let v34 : BitVec 1 := Scalar.cmpi .ne v28 v33
  let v35 : BitVec 32 := Scalar.remsi v22 c128_i32
  let c0_i32_9 : BitVec 32 := 0#32
  let v36 : BitVec 1 := Scalar.cmpi .ne v35 c0_i32_9
  let v37 : BitVec 1 := Scalar.andi v34 v36
  let c1_i32_10 : BitVec 32 := 1#32
  let v38 : BitVec 32 := Scalar.subi v23 c1_i32_10
  let v39 : BitVec 32 := Scalar.select v37 v38 v23
  let c0_i32_11 : BitVec 32 := 0#32
  let c0_i32_12 : BitVec 32 := 0#32
  ![arg0.toNat, c0_i32_11.toNat, v20.toNat, v39.toNat]

def cc0_transform_2 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S128) ![v2.toNat] S1.size (k0_off1_inb i 1)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let v21 : Index := Scalar.indexCast v1
  let v22 : BitVec 32 := pf.at 1 (Rect.unit (s := S128) ![v21.toNat] S1.size (k0_off1_inb i 1)) numel1_S1
  let c128_i32 : BitVec 32 := 128#32
  let v23 : BitVec 32 := Scalar.divsi v22 c128_i32
  let c0_i32_5 : BitVec 32 := 0#32
  let v24 : BitVec 1 := Scalar.cmpi .sgt v22 c0_i32_5
  let v25 : BitVec 32 := Scalar.extui v24
  let c0_i32_6 : BitVec 32 := 0#32
  let v26 : BitVec 1 := Scalar.cmpi .slt v22 c0_i32_6
  let v27 : BitVec 32 := Scalar.extui v26
  let v28 : BitVec 32 := Scalar.subi v25 v27
  let c0_i32_7 : BitVec 32 := 0#32
  let v29 : BitVec 1 := Scalar.cmpi .sgt c128_i32 c0_i32_7
  let v30 : BitVec 32 := Scalar.extui v29
  let c0_i32_8 : BitVec 32 := 0#32
  let v31 : BitVec 1 := Scalar.cmpi .slt c128_i32 c0_i32_8
  let v32 : BitVec 32 := Scalar.extui v31
  let v33 : BitVec 32 := Scalar.subi v30 v32
  let v34 : BitVec 1 := Scalar.cmpi .ne v28 v33
  let v35 : BitVec 32 := Scalar.remsi v22 c128_i32
  let c0_i32_9 : BitVec 32 := 0#32
  let v36 : BitVec 1 := Scalar.cmpi .ne v35 c0_i32_9
  let v37 : BitVec 1 := Scalar.andi v34 v36
  let c1_i32_10 : BitVec 32 := 1#32
  let v38 : BitVec 32 := Scalar.subi v23 c1_i32_10
  let v39 : BitVec 32 := Scalar.select v37 v38 v23
  let c0_i32_11 : BitVec 32 := 0#32
  let c0_i32_12 : BitVec 32 := 0#32
  ![arg0.toNat, c0_i32_11.toNat, v20.toNat, v39.toNat]

def cc0_transform_3 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S128) ![v2.toNat] S1.size (k0_off1_inb i 2)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 2)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_4 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S128) ![v2.toNat] S1.size (k0_off1_inb i 3)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 3)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_5 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S128) ![v2.toNat] S1.size (k0_off1_inb i 4)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 4)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_6 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S128) ![v2.toNat] S1.size (k0_off1_inb i 5)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 5)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_7 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S128) ![v2.toNat] S1.size (k0_off1_inb i 6)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 6)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_8 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S128) ![v2.toNat] S1.size (k0_off1_inb i 7)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 7)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_9 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S128) ![v2.toNat] S1.size (k0_off1_inb i 8)) numel1_S1
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 8)) numel1_S1
  let c128_i32 : BitVec 32 := 128#32
  let v23 : BitVec 32 := Scalar.divsi v22 c128_i32
  let c0_i32_5 : BitVec 32 := 0#32
  let v24 : BitVec 1 := Scalar.cmpi .sgt v22 c0_i32_5
  let v25 : BitVec 32 := Scalar.extui v24
  let c0_i32_6 : BitVec 32 := 0#32
  let v26 : BitVec 1 := Scalar.cmpi .slt v22 c0_i32_6
  let v27 : BitVec 32 := Scalar.extui v26
  let v28 : BitVec 32 := Scalar.subi v25 v27
  let c0_i32_7 : BitVec 32 := 0#32
  let v29 : BitVec 1 := Scalar.cmpi .sgt c128_i32 c0_i32_7
  let v30 : BitVec 32 := Scalar.extui v29
  let c0_i32_8 : BitVec 32 := 0#32
  let v31 : BitVec 1 := Scalar.cmpi .slt c128_i32 c0_i32_8
  let v32 : BitVec 32 := Scalar.extui v31
  let v33 : BitVec 32 := Scalar.subi v30 v32
  let v34 : BitVec 1 := Scalar.cmpi .ne v28 v33
  let v35 : BitVec 32 := Scalar.remsi v22 c128_i32
  let c0_i32_9 : BitVec 32 := 0#32
  let v36 : BitVec 1 := Scalar.cmpi .ne v35 c0_i32_9
  let v37 : BitVec 1 := Scalar.andi v34 v36
  let c1_i32_10 : BitVec 32 := 1#32
  let v38 : BitVec 32 := Scalar.subi v23 c1_i32_10
  let v39 : BitVec 32 := Scalar.select v37 v38 v23
  let c0_i32_11 : BitVec 32 := 0#32
  let c0_i32_12 : BitVec 32 := 0#32
  ![arg0.toNat, c0_i32_11.toNat, v20.toNat, v39.toNat]

def cc0_transform_10 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S128) ![v2.toNat] S1.size (k0_off1_inb i 9)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 9)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_11 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S128) ![v2.toNat] S1.size (k0_off1_inb i 10)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 10)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_12 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S128) ![v2.toNat] S1.size (k0_off1_inb i 11)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 11)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_13 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S128) ![v2.toNat] S1.size (k0_off1_inb i 12)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 12)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_14 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S128) ![v2.toNat] S1.size (k0_off1_inb i 13)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 13)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_15 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S128) ![v2.toNat] S1.size (k0_off1_inb i 14)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 14)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_16 (k0_off1_inb : ∀ i : grid0.Coords, ∀ (r : Fin 16), ∀ a, (k0_off1 i (BitVec.ofNat 32 r.val)) a + S1.size a ≤ S128.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S128) ![v2.toNat] S1.size (k0_off1_inb i 15)) numel1_S1
  let c8_i32 : BitVec 32 := 8#32
  let v4 : BitVec 32 := Scalar.divsi v3 c8_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c8_i32 c0_i32_1
  let v11 : BitVec 32 := Scalar.extui v10
  let c0_i32_2 : BitVec 32 := 0#32
  let v12 : BitVec 1 := Scalar.cmpi .slt c8_i32 c0_i32_2
  let v13 : BitVec 32 := Scalar.extui v12
  let v14 : BitVec 32 := Scalar.subi v11 v13
  let v15 : BitVec 1 := Scalar.cmpi .ne v9 v14
  let v16 : BitVec 32 := Scalar.remsi v3 c8_i32
  let c0_i32_3 : BitVec 32 := 0#32
  let v17 : BitVec 1 := Scalar.cmpi .ne v16 c0_i32_3
  let v18 : BitVec 1 := Scalar.andi v15 v17
  let c1_i32 : BitVec 32 := 1#32
  let v19 : BitVec 32 := Scalar.subi v4 c1_i32
  let v20 : BitVec 32 := Scalar.select v18 v19 v4
  let v21 : Index := Scalar.indexCast v1
  let v22 : BitVec 32 := pf.at 1 (Rect.unit (s := S128) ![v21.toNat] S1.size (k0_off1_inb i 15)) numel1_S1
  let c128_i32 : BitVec 32 := 128#32
  let v23 : BitVec 32 := Scalar.divsi v22 c128_i32
  let c0_i32_4 : BitVec 32 := 0#32
  let v24 : BitVec 1 := Scalar.cmpi .sgt v22 c0_i32_4
  let v25 : BitVec 32 := Scalar.extui v24
  let c0_i32_5 : BitVec 32 := 0#32
  let v26 : BitVec 1 := Scalar.cmpi .slt v22 c0_i32_5
  let v27 : BitVec 32 := Scalar.extui v26
  let v28 : BitVec 32 := Scalar.subi v25 v27
  let c0_i32_6 : BitVec 32 := 0#32
  let v29 : BitVec 1 := Scalar.cmpi .sgt c128_i32 c0_i32_6
  let v30 : BitVec 32 := Scalar.extui v29
  let c0_i32_7 : BitVec 32 := 0#32
  let v31 : BitVec 1 := Scalar.cmpi .slt c128_i32 c0_i32_7
  let v32 : BitVec 32 := Scalar.extui v31
  let v33 : BitVec 32 := Scalar.subi v30 v32
  let v34 : BitVec 1 := Scalar.cmpi .ne v28 v33
  let v35 : BitVec 32 := Scalar.remsi v22 c128_i32
  let c0_i32_8 : BitVec 32 := 0#32
  let v36 : BitVec 1 := Scalar.cmpi .ne v35 c0_i32_8
  let v37 : BitVec 1 := Scalar.andi v34 v36
  let c1_i32_9 : BitVec 32 := 1#32
  let v38 : BitVec 32 := Scalar.subi v23 c1_i32_9
  let v39 : BitVec 32 := Scalar.select v37 v38 v23
  let c0_i32_10 : BitVec 32 := 0#32
  let c0_i32_11 : BitVec 32 := 0#32
  ![arg0.toNat, c0_i32_10.toNat, v20.toNat, v39.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x9x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x9x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x9x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x9x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x9x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x9x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x9x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x9x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x9x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x9x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x9x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x9x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x9x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x16x9 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x16x9 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x16x16 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S8x9x512x512 : Shape := ⟨4, ![8, 9, 512, 512]⟩
abbrev S8x16x4 : Shape := ⟨3, ![8, 16, 4]⟩
abbrev S8x16 : Shape := ⟨2, ![8, 16]⟩
abbrev S8x3x3x512x512 : Shape := ⟨5, ![8, 3, 3, 512, 512]⟩
abbrev S8x3x1x512x512 : Shape := ⟨5, ![8, 3, 1, 512, 512]⟩
abbrev S8x3x512x512 : Shape := ⟨4, ![8, 3, 512, 512]⟩
abbrev S_ : Shape := ⟨0, ![]⟩
abbrev S512 : Shape := ⟨1, ![512]⟩
abbrev S1x1x512x1 : Shape := ⟨4, ![1, 1, 512, 1]⟩
abbrev S1x1x1x512 : Shape := ⟨4, ![1, 1, 1, 512]⟩
abbrev S1x1x512x1x1 : Shape := ⟨5, ![1, 1, 512, 1, 1]⟩
abbrev S1x1x1x512x1 : Shape := ⟨5, ![1, 1, 1, 512, 1]⟩
abbrev S8x1x1x1x16x4 : Shape := ⟨6, ![8, 1, 1, 1, 16, 4]⟩
abbrev S8x1x1x1x16x1 : Shape := ⟨6, ![8, 1, 1, 1, 16, 1]⟩
abbrev S8x1x1x1x16 : Shape := ⟨5, ![8, 1, 1, 1, 16]⟩
abbrev S8x1x512x1x16 : Shape := ⟨5, ![8, 1, 512, 1, 16]⟩
abbrev S8x1x1x512x16 : Shape := ⟨5, ![8, 1, 1, 512, 16]⟩
abbrev S8x1x512x512x16 : Shape := ⟨5, ![8, 1, 512, 512, 16]⟩
abbrev S8x3x512x512x1 : Shape := ⟨5, ![8, 3, 512, 512, 1]⟩
abbrev S8x3x512x512x16 : Shape := ⟨5, ![8, 3, 512, 512, 16]⟩
abbrev S8x16x1 : Shape := ⟨3, ![8, 16, 1]⟩

abbrev nBuf : Space → Nat
  | .hbm => 158
  | .vmem => 0
  | .smem => 0
  | _ => 0

abbrev hbmTy0_0 (i : Nat) : BufTy := match i % 128 with
  | 0 => ⟨S8x9x512x512, .f32⟩
  | 1 => ⟨S8x16x4, .i32⟩
  | 2 => ⟨S8x16, .f32⟩
  | 3 => ⟨S8x3x3x512x512, .f32⟩
  | 4 => ⟨S8x3x1x512x512, .f32⟩
  | 5 => ⟨S8x3x512x512, .f32⟩
  | 6 => ⟨S8x3x512x512, .f32⟩
  | 7 => ⟨S8x3x512x512, .f32⟩
  | 8 => ⟨S_, .f32⟩
  | 9 => ⟨S8x3x512x512, .f32⟩
  | 10 => ⟨S8x3x512x512, .f32⟩
  | 11 => ⟨S_, .f32⟩
  | 12 => ⟨S8x3x512x512, .f32⟩
  | 13 => ⟨S8x3x512x512, .f32⟩
  | 14 => ⟨S_, .f32⟩
  | 15 => ⟨S8x3x512x512, .f32⟩
  | 16 => ⟨S8x3x512x512, .f32⟩
  | 17 => ⟨S8x3x1x512x512, .f32⟩
  | 18 => ⟨S8x3x512x512, .f32⟩
  | 19 => ⟨S8x3x512x512, .f32⟩
  | 20 => ⟨S8x3x512x512, .f32⟩
  | 21 => ⟨S_, .f32⟩
  | 22 => ⟨S8x3x512x512, .f32⟩
  | 23 => ⟨S8x3x512x512, .f32⟩
  | 24 => ⟨S_, .f32⟩
  | 25 => ⟨S8x3x512x512, .f32⟩
  | 26 => ⟨S8x3x512x512, .f32⟩
  | 27 => ⟨S_, .f32⟩
  | 28 => ⟨S8x3x512x512, .f32⟩
  | 29 => ⟨S8x3x512x512, .f32⟩
  | 30 => ⟨S8x3x1x512x512, .f32⟩
  | 31 => ⟨S8x3x512x512, .f32⟩
  | 32 => ⟨S8x3x512x512, .f32⟩
  | 33 => ⟨S8x3x512x512, .f32⟩
  | 34 => ⟨S_, .f32⟩
  | 35 => ⟨S8x3x512x512, .f32⟩
  | 36 => ⟨S8x3x512x512, .f32⟩
  | 37 => ⟨S_, .f32⟩
  | 38 => ⟨S8x3x512x512, .f32⟩
  | 39 => ⟨S8x3x512x512, .f32⟩
  | 40 => ⟨S512, .f32⟩
  | 41 => ⟨S1x1x512x1, .f32⟩
  | 42 => ⟨S512, .f32⟩
  | 43 => ⟨S1x1x1x512, .f32⟩
  | 44 => ⟨S8x3x512x512, .f32⟩
  | 45 => ⟨S8x3x512x512, .f32⟩
  | 46 => ⟨S_, .f32⟩
  | 47 => ⟨S_, .f32⟩
  | 48 => ⟨S_, .f32⟩
  | 49 => ⟨S8x3x512x512, .f32⟩
  | 50 => ⟨S8x3x512x512, .f32⟩
  | 51 => ⟨S_, .f32⟩
  | 52 => ⟨S8x3x512x512, .f32⟩
  | 53 => ⟨S8x3x512x512, .f32⟩
  | 54 => ⟨S8x3x512x512, .f32⟩
  | 55 => ⟨S8x3x512x512, .f32⟩
  | 56 => ⟨S_, .f32⟩
  | 57 => ⟨S_, .f32⟩
  | 58 => ⟨S_, .f32⟩
  | 59 => ⟨S8x3x512x512, .f32⟩
  | 60 => ⟨S8x3x512x512, .f32⟩
  | 61 => ⟨S_, .f32⟩
  | 62 => ⟨S8x3x512x512, .f32⟩
  | 63 => ⟨S8x3x512x512, .f32⟩
  | 64 => ⟨S8x3x512x512, .f32⟩
  | 65 => ⟨S8x3x512x512, .i32⟩
  | 66 => ⟨S8x3x512x512, .f32⟩
  | 67 => ⟨S8x3x512x512, .i32⟩
  | 68 => ⟨S512, .i32⟩
  | 69 => ⟨S1x1x512x1x1, .i32⟩
  | 70 => ⟨S512, .i32⟩
  | 71 => ⟨S1x1x1x512x1, .i32⟩
  | 72 => ⟨S8x1x1x1x16x4, .i32⟩
  | 73 => ⟨S8x1x1x1x16x1, .i32⟩
  | 74 => ⟨S8x1x1x1x16, .i32⟩
  | 75 => ⟨S8x1x512x1x16, .i32⟩
  | 76 => ⟨S8x1x512x1x16, .i32⟩
  | 77 => ⟨S8x1x512x1x16, .i1⟩
  | 78 => ⟨S8x1x1x1x16x1, .i32⟩
  | 79 => ⟨S8x1x1x1x16, .i32⟩
  | 80 => ⟨S8x1x1x512x16, .i32⟩
  | 81 => ⟨S8x1x1x512x16, .i32⟩
  | 82 => ⟨S8x1x1x512x16, .i1⟩
  | 83 => ⟨S8x1x512x512x16, .i1⟩
  | 84 => ⟨S8x1x512x512x16, .i1⟩
  | 85 => ⟨S8x1x512x512x16, .i1⟩
  | 86 => ⟨S8x3x512x512x1, .i32⟩
  | 87 => ⟨S8x1x1x1x16x1, .i32⟩
  | 88 => ⟨S8x1x1x1x16, .i32⟩
  | 89 => ⟨S8x3x512x512x16, .i32⟩
  | 90 => ⟨S8x3x512x512x16, .i32⟩
  | 91 => ⟨S8x3x512x512x16, .i1⟩
  | 92 => ⟨S8x3x512x512x16, .i1⟩
  | 93 => ⟨S8x3x512x512x16, .i1⟩
  | 94 => ⟨S8x3x512x512x1, .i32⟩
  | 95 => ⟨S8x1x1x1x16x1, .i32⟩
  | 96 => ⟨S8x1x1x1x16, .i32⟩
  | 97 => ⟨S8x3x512x512x16, .i32⟩
  | 98 => ⟨S8x3x512x512x16, .i32⟩
  | 99 => ⟨S8x3x512x512x16, .i1⟩
  | 100 => ⟨S8x3x512x512x16, .i1⟩
  | 101 => ⟨S_, .i1⟩
  | 102 => ⟨S8x3x512x512, .i1⟩
  | 103 => ⟨S8x3x512x512x16, .i32⟩
  | 104 => ⟨S_, .i1⟩
  | 105 => ⟨S_, .i32⟩
  | 106 => ⟨S8x3x512x512, .i1⟩
  | 107 => ⟨S8x3x512x512, .i32⟩
  | 108 => ⟨S8x16x1, .i32⟩
  | 109 => ⟨S8x16, .i32⟩
  | 110 => ⟨S8x16, .f32⟩
  | 111 => ⟨S_, .i32⟩
  | 112 => ⟨S8x3x512x512, .i32⟩
  | 113 => ⟨S8x3x512x512, .i1⟩
  | 114 => ⟨S_, .i32⟩
  | 115 => ⟨S8x3x512x512, .i32⟩
  | 116 => ⟨S8x3x512x512, .i32⟩
  | 117 => ⟨S8x3x512x512, .i32⟩
  | 118 => ⟨S8x3x512x512x1, .i32⟩
  | 119 => ⟨S8x3x512x512, .f32⟩
  | 120 => ⟨S8x16x1, .i32⟩
  | 121 => ⟨S8x16, .i32⟩
  | 122 => ⟨S8x16, .f32⟩
  | 123 => ⟨S_, .i32⟩
  | 124 => ⟨S8x3x512x512, .i32⟩
  | 125 => ⟨S8x3x512x512, .i1⟩
  | 126 => ⟨S_, .i32⟩
  | 127 => ⟨S8x3x512x512, .i32⟩
  | _ => ⟨S8x9x512x512, .f32⟩

abbrev hbmTy0_1 (i : Nat) : BufTy := match i % 128 with
  | 0 => ⟨S8x3x512x512, .i32⟩
  | 1 => ⟨S8x3x512x512, .i32⟩
  | 2 => ⟨S8x3x512x512x1, .i32⟩
  | 3 => ⟨S8x3x512x512, .f32⟩
  | 4 => ⟨S_, .i32⟩
  | 5 => ⟨S8x3x512x512, .i32⟩
  | 6 => ⟨S8x3x512x512, .i1⟩
  | 7 => ⟨S_, .i32⟩
  | 8 => ⟨S8x3x512x512, .i32⟩
  | 9 => ⟨S8x3x512x512, .i32⟩
  | 10 => ⟨S8x3x512x512, .i32⟩
  | 11 => ⟨S8x3x512x512x1, .i32⟩
  | 12 => ⟨S8x3x512x512, .f32⟩
  | 13 => ⟨S8x3x512x512, .f32⟩
  | 14 => ⟨S8x3x512x512, .f32⟩
  | 15 => ⟨S8x3x512x512, .f32⟩
  | 16 => ⟨S8x3x512x512, .f32⟩
  | 17 => ⟨S8x3x512x512, .f32⟩
  | 18 => ⟨S8x3x512x512, .f32⟩
  | 19 => ⟨S8x3x512x512, .f32⟩
  | 20 => ⟨S8x3x512x512, .f32⟩
  | 21 => ⟨S_, .f32⟩
  | 22 => ⟨S8x3x512x512, .f32⟩
  | 23 => ⟨S8x3x512x512, .f32⟩
  | 24 => ⟨S8x3x512x512, .f32⟩
  | 25 => ⟨S8x3x512x512, .f32⟩
  | 26 => ⟨S_, .f32⟩
  | 27 => ⟨S_, .f32⟩
  | 28 => ⟨S_, .f32⟩
  | 29 => ⟨S_, .f32⟩
  | _ => ⟨S8x9x512x512, .f32⟩

abbrev hbmTy (i : Nat) : BufTy := match i / 128 with
  | 0 => hbmTy0_0 i
  | 1 => hbmTy0_1 i
  | _ => ⟨S8x9x512x512, .f32⟩

abbrev bufTy : (tb : Table) → Fin (tcTables nBuf tb) → BufTy
  | .hbm, ⟨i, _⟩ => hbmTy i
  | _, _ => ⟨S8x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_cst_10 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c : Ref sig .tc := ⟨.hbm, 101, rfl⟩
abbrev main_v76 : Ref sig .tc := ⟨.hbm, 102, rfl⟩
abbrev main_call4_v0 : Ref sig .tc := ⟨.hbm, 103, rfl⟩
abbrev main_call4_c : Ref sig .tc := ⟨.hbm, 104, rfl⟩
abbrev main_call4_c_0 : Ref sig .tc := ⟨.hbm, 105, rfl⟩
abbrev main_call4_v1_0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_11 : Ref sig .tc := ⟨.hbm, 111, rfl⟩
abbrev main_v81 : Ref sig .tc := ⟨.hbm, 112, rfl⟩
abbrev main_v82 : Ref sig .tc := ⟨.hbm, 113, rfl⟩
abbrev main_c_12 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_13 : Ref sig .tc := ⟨.hbm, 123, rfl⟩
abbrev main_v91 : Ref sig .tc := ⟨.hbm, 124, rfl⟩
abbrev main_v92 : Ref sig .tc := ⟨.hbm, 125, rfl⟩
abbrev main_c_14 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_15 : Ref sig .tc := ⟨.hbm, 132, rfl⟩
abbrev main_v98 : Ref sig .tc := ⟨.hbm, 133, rfl⟩
abbrev main_v99 : Ref sig .tc := ⟨.hbm, 134, rfl⟩
abbrev main_c_16 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_17 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_18 : Ref sig .tc := ⟨.hbm, 154, rfl⟩
abbrev main_v117 : Ref sig .tc := ⟨.hbm, 155, rfl⟩
abbrev main_cst_19 : Ref sig .tc := ⟨.hbm, 156, rfl⟩
abbrev main_v118 : Ref sig .tc := ⟨.hbm, 157, rfl⟩

abbrev nD : Nat := 1
abbrev τ : Topo := Topo.v7x

variable {F : FTy → Type} [FloatOps F]
-- ==== Proof.Words.lean ====
/-
  Words of the box coordinates: what the precondition says of each, and the printed floor division of one by a tile
  extent.
-/
module

public import proofs.«01_k».proof.Proof.Gen.Pre_coords
public import Idealize.ShloMosaic.Lib.ReduceAll
public import Idealize.ShloMosaic.Lib.Pointwise

@[expose] public section

set_option maxRecDepth 16384

noncomputable section

namespace Cert.Loss

open Idealize.ShloMosaic

/-- jnp's floor division of words, as it prints. -/
def fdiv (v k : BitVec 32) : BitVec 32 :=
  Scalar.select
    (Scalar.andi
      (Scalar.cmpi .ne
        (Scalar.subi (Scalar.extui (Scalar.cmpi .sgt v 0#32)) (Scalar.extui (Scalar.cmpi .slt v 0#32)))
        (Scalar.subi (Scalar.extui (Scalar.cmpi .sgt k 0#32)) (Scalar.extui (Scalar.cmpi .slt k 0#32))))
      (Scalar.cmpi .ne (Scalar.remsi v k) 0#32))
    (Scalar.subi (Scalar.divsi v k) 1#32) (Scalar.divsi v k)

theorem fdiv_table : ∀ n : Fin 512, (fdiv (BitVec.ofNat 32 n.val) 8#32).toNat = n.val / 8
    ∧ (fdiv (BitVec.ofNat 32 n.val) 128#32).toNat = n.val / 128 := by
  decide +kernel

theorem word_eq (v : BitVec 32) : v = BitVec.ofNat 32 v.toNat := by simp

theorem fdiv_8 (v : BitVec 32) (h : v.toNat < 512) : (fdiv v 8#32).toNat = v.toNat / 8 := by
  have := (fdiv_table ⟨v.toNat, h⟩).1
  rwa [← word_eq] at this

theorem fdiv_128 (v : BitVec 32) (h : v.toNat < 512) : (fdiv v 128#32).toNat = v.toNat / 128 := by
  have := (fdiv_table ⟨v.toNat, h⟩).2
  rwa [← word_eq] at this

/-- A word that is signed between 0 and 511 is below 512 unsigned. -/
theorem toNat_lt_of_signed (w : BitVec 32) (h0 : IntOp.cmpi .sge w 0#32 = 1#1) (h1 : IntOp.cmpi .slt w 512#32 = 1#1) :
    w.toNat < 512 := by
  have a : (0 : ℤ) ≤ w.toInt := by simpa using IntOp.cmpi_sge.1 h0
  have b : w.toInt < 512 := by simpa using IntOp.cmpi_slt.1 h1
  rw [BitVec.toInt_eq_toNat_cond] at a b
  have := w.isLt
  split at a <;> omega

attribute [local instance] Cert.Pre_coords.Gen.facts

/-- Every entry of the boxes is below 512 under the precondition. -/
theorem coord_lt {F : FTy → Type} [FloatOps F] (x : FVec F Pre_coords.S8x9x512x512 .f32) (b : IVec Pre_coords.S8x16x4 32)
    (p : FVec F Pre_coords.S8x16 .f32) (h : Pre_coords.fn x b p = fun _ => 1#1) (i : Pre_coords.S8x16x4.Idx) :
    (b i).toNat < 512 := by
  have e := congrFun h (fun a => a.elim0)
  unfold Pre_coords.fn at e
  dsimp only at e
  haveI : Subsingleton Pre_coords.S_.Idx := ⟨fun a b => funext fun k => k.elim0⟩
  have ei := Host.reduce_andi_all _ _ _ _ _ e i
  have := IntOp.andi_eq_one.1 ei
  exact toNat_lt_of_signed _ this.1 this.2

end Cert.Loss

end
-- ==== Proof.IdealRun.lean ====
/-
  One run of the loss kernel's body: from the staging buffers at given contents to the same buffers with the one
  partial sum stored in the output block.
-/
module

public import proofs.«01_k».proof.Proof.Gen.KernelIdeal.Frame.Runs

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

variable (c : Dev nD) (i : grid0.Coords)
  (a0 : Memref sig .tc .vmem S1x3x1x512x512 .f32) (w0 : a0.IsWhole)
  (a1 : Memref sig .tc .vmem S1x9x8x128 .f32) (w1 : a1.IsWhole)
  (a2 : Memref sig .tc .vmem S1x9x8x128 .f32) (w2 : a2.IsWhole)
  (a3 : Memref sig .tc .vmem S1x9x8x128 .f32) (w3 : a3.IsWhole)
  (a4 : Memref sig .tc .vmem S1x9x8x128 .f32) (w4 : a4.IsWhole)
  (a5 : Memref sig .tc .vmem S1x9x8x128 .f32) (w5 : a5.IsWhole)
  (a6 : Memref sig .tc .vmem S1x9x8x128 .f32) (w6 : a6.IsWhole)
  (a7 : Memref sig .tc .vmem S1x9x8x128 .f32) (w7 : a7.IsWhole)
  (a8 : Memref sig .tc .vmem S1x9x8x128 .f32) (w8 : a8.IsWhole)
  (a9 : Memref sig .tc .vmem S1x9x8x128 .f32) (w9 : a9.IsWhole)
  (a10 : Memref sig .tc .vmem S1x9x8x128 .f32) (w10 : a10.IsWhole)
  (a11 : Memref sig .tc .vmem S1x9x8x128 .f32) (w11 : a11.IsWhole)
  (a12 : Memref sig .tc .vmem S1x9x8x128 .f32) (w12 : a12.IsWhole)
  (a13 : Memref sig .tc .vmem S1x9x8x128 .f32) (w13 : a13.IsWhole)
  (a14 : Memref sig .tc .vmem S1x9x8x128 .f32) (w14 : a14.IsWhole)
  (a15 : Memref sig .tc .vmem S1x9x8x128 .f32) (w15 : a15.IsWhole)
  (a16 : Memref sig .tc .vmem S1x9x8x128 .f32) (w16 : a16.IsWhole)
  (a17 : Memref sig .tc .vmem S1x16x9 .f32) (w17 : a17.IsWhole)
  (a18 : Memref sig .tc .vmem S1x16x9 .f32) (w18 : a18.IsWhole)
  (a19 : Memref sig .tc .vmem S1x16x16 .f32) (w19 : a19.IsWhole)
  (a20 : Memref sig .tc .vmem S1x1x1 .f32) (w20 : a20.IsWhole)
  (x0 : Vec F S1x3x1x512x512 .f32)
  (x1 : Vec F S1x9x8x128 .f32)
  (x2 : Vec F S1x9x8x128 .f32)
  (x3 : Vec F S1x9x8x128 .f32)
  (x4 : Vec F S1x9x8x128 .f32)
  (x5 : Vec F S1x9x8x128 .f32)
  (x6 : Vec F S1x9x8x128 .f32)
  (x7 : Vec F S1x9x8x128 .f32)
  (x8 : Vec F S1x9x8x128 .f32)
  (x9 : Vec F S1x9x8x128 .f32)
  (x10 : Vec F S1x9x8x128 .f32)
  (x11 : Vec F S1x9x8x128 .f32)
  (x12 : Vec F S1x9x8x128 .f32)
  (x13 : Vec F S1x9x8x128 .f32)
  (x14 : Vec F S1x9x8x128 .f32)
  (x15 : Vec F S1x9x8x128 .f32)
  (x16 : Vec F S1x9x8x128 .f32)
  (x17 : Vec F S1x16x9 .f32)
  (x18 : Vec F S1x16x9 .f32)
  (x19 : Vec F S1x16x16 .f32)
  (rows : TbBuf0 (F := F) c tbM0_0) (cols : TbBuf0 (F := F) c tbM0_1)

-- twenty staged inputs are carried through every step
set_option maxHeartbeats 40000000 in
/-- The stores of one body run into the output block, together with the triple: the inputs and the two tables come
    back as they were and the output buffer has received those stores. -/
noncomputable def stores :
    { L : List (View.Piece (Elt F) S1x1x1 .f32) //
      ∀ (E : Set ℕ) (K : PUnit → sProp 𝕄),
        iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a13 fullShare x13
            ∗ owns (c : Thread nD τ) a14 fullShare x14
            ∗ owns (c : Thread nD τ) a15 fullShare x15
            ∗ owns (c : Thread nD τ) a16 fullShare x16
            ∗ owns (c : Thread nD τ) a17 fullShare x17
            ∗ owns (c : Thread nD τ) a18 fullShare x18
            ∗ owns (c : Thread nD τ) a19 fullShare x19
            ∗ (∃ d, owns (c : Thread nD τ) a20 fullShare d)
            ∗ tbPt0 c tbM0_0 rows ∗ tbPt0 c tbM0_1 cols
            ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a13 fullShare x13
            ∗ owns (c : Thread nD τ) a14 fullShare x14
            ∗ owns (c : Thread nD τ) a15 fullShare x15
            ∗ owns (c : Thread nD τ) a16 fullShare x16
            ∗ owns (c : Thread nD τ) a17 fullShare x17
            ∗ owns (c : Thread nD τ) a18 fullShare x18
            ∗ owns (c : Thread nD τ) a19 fullShare x19
            ∗ (∃ f, a20.view.loc (c : Thread nD τ) ↦[a20.view.set]{fullShare} a20.view.writes (Elt F) f L)
            ∗ tbPt0 c tbM0_0 rows ∗ tbPt0 c tbM0_1 cols) -∗ K ⟨⟩))
          ⊢ wp frame (wpE (defs₀ (F := F)) Variants.none c none) E
            (cc0_box_detection_loss i tbM0_0 htbM0_0 tbM0_1 htbM0_1 a0 w0 a1 w1 a2 w2 a3 w3 a4 w4 a5 w5 a6 w6 a7 w7 a8 w8 a9 w9 a10 w10 a11 w11 a12 w12 a13 w13 a14 w14 a15 w15 a16 w16 a17 w17 a18 w18 a19 w19 a20 w20) K } := by
  refine ⟨?_, fun E K => ?triple⟩
  case triple =>
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%d20, %f20, -, H20⟩, HR, HC, Hk⟩
    obtain rfl := w0.eq_unread e0
    obtain rfl := w1.eq_unread e1
    obtain rfl := w2.eq_unread e2
    obtain rfl := w3.eq_unread e3
    obtain rfl := w4.eq_unread e4
    obtain rfl := w5.eq_unread e5
    obtain rfl := w6.eq_unread e6
    obtain rfl := w7.eq_unread e7
    obtain rfl := w8.eq_unread e8
    obtain rfl := w9.eq_unread e9
    obtain rfl := w10.eq_unread e10
    obtain rfl := w11.eq_unread e11
    obtain rfl := w12.eq_unread e12
    obtain rfl := w13.eq_unread e13
    obtain rfl := w14.eq_unread e14
    obtain rfl := w15.eq_unread e15
    obtain rfl := w16.eq_unread e16
    obtain rfl := w17.eq_unread e17
    obtain rfl := w18.eq_unread e18
    obtain rfl := w19.eq_unread e19
    simp only [cc0_box_detection_loss_eq_skeleton]
    unfold cc0_box_detection_loss_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    sl_exec
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _; isplitr; · ipureintro; exact w9.read_unread _
      iexact H9
    isplitl [H10]
    · iexists _; isplitr; · ipureintro; exact w10.read_unread _
      iexact H10
    isplitl [H11]
    · iexists _; isplitr; · ipureintro; exact w11.read_unread _
      iexact H11
    isplitl [H12]
    · iexists _; isplitr; · ipureintro; exact w12.read_unread _
      iexact H12
    isplitl [H13]
    · iexists _; isplitr; · ipureintro; exact w13.read_unread _
      iexact H13
    isplitl [H14]
    · iexists _; isplitr; · ipureintro; exact w14.read_unread _
      iexact H14
    isplitl [H15]
    · iexists _; isplitr; · ipureintro; exact w15.read_unread _
      iexact H15
    isplitl [H16]
    · iexists _; isplitr; · ipureintro; exact w16.read_unread _
      iexact H16
    isplitl [H17]
    · iexists _; isplitr; · ipureintro; exact w17.read_unread _
      iexact H17
    isplitl [H18]
    · iexists _; isplitr; · ipureintro; exact w18.read_unread _
      iexact H18
    isplitl [H19]
    · iexists _; isplitr; · ipureintro; exact w19.read_unread _
      iexact H19
    isplitl [H20]; · iexists _; iexact H20
    isplitl [HR]; · iexact HR
    iexact HC

/-- The one store fills the one-entry output block. -/
theorem stores_cover (y : S1x1x1.Idx) :
    ∃ p ∈ (stores c i a0 w0 a1 w1 a2 w2 a3 w3 a4 w4 a5 w5 a6 w6 a7 w7 a8 w8 a9 w9 a10 w10 a11 w11 a12 w12 a13 w13 a14 w14 a15 w15 a16 w16 a17 w17 a18 w18 a19 w19 a20 w20
      x0 x1 x2 x3 x4 x5 x6 x7 x8 x9 x10 x11 x12 x13 x14 x15 x16 x17 x18 x19 rows cols).1, y ∈ p.1.set :=
  View.cover_of_tiledL _ S1x1x1.size (by sl_kernel_rfl) y

/-- The output block after the run. -/
def block : Vec F S1x1x1 .f32 :=
  VO0_20.read (Elt F) (VO0_20.writes (Elt F) VO0_20.junk
    (stores c i a0 w0 a1 w1 a2 w2 a3 w3 a4 w4 a5 w5 a6 w6 a7 w7 a8 w8 a9 w9 a10 w10 a11 w11 a12 w12 a13 w13 a14 w14 a15 w15 a16 w16 a17 w17 a18 w18 a19 w19 a20 w20
      x0 x1 x2 x3 x4 x5 x6 x7 x8 x9 x10 x11 x12 x13 x14 x15 x16 x17 x18 x19 rows cols).1)

end Cert.KernelIdeal.Body

end
-- ==== Proof.IdealFrame.lean ====
/-
  The whole launch: the body run at every grid point, the pipeline around it, the host lines before and after; what
  every array holds at the end, the arguments unchanged, the counters back at zero.
-/
module

public import proofs.«01_k».proof.Proof.IdealRun
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (c : Dev nD) (t : Fin (cfgM m hO).N)

/-- The output block the body leaves at grid point `t`. -/
def outAt : Vec F S1x1x1 .f32 :=
  block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (tbl m 1)

/-- What the pipeline is proved with: arrays as the region finds them, inputs left at their blocks, the output at
    `outAt`. -/
def data (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => outAt m hO c t
    | ⟨_ + 21, h⟩ => absurd h (Nat.not_lt.2 (Nat.le_add_left _ _))
  Φ _ := iprop(Pipeline.ΦA spec0 c ∗ Pipeline.ΦT pre0 (tbl m) c)
  q w := Pipeline.shareOf spec0 w
  owed _ := 0

theorem data_array (w : Fin (cfgM m hO).W) : (data m hO 0 c).A w = V m c (Pipeline.arrRef spec0 w) := by
  dsimp only [data]

theorem left0 : (data m hO 0 c).after 0 t = iblk m hO c 0 t := by dsimp only [data]; try rfl
theorem left1 : (data m hO 0 c).after 1 t = iblk m hO c 1 t := by dsimp only [data]; try rfl
theorem left2 : (data m hO 0 c).after 2 t = iblk m hO c 2 t := by dsimp only [data]; try rfl
theorem left3 : (data m hO 0 c).after 3 t = iblk m hO c 3 t := by dsimp only [data]; try rfl
theorem left4 : (data m hO 0 c).after 4 t = iblk m hO c 4 t := by dsimp only [data]; try rfl
theorem left5 : (data m hO 0 c).after 5 t = iblk m hO c 5 t := by dsimp only [data]; try rfl
theorem left6 : (data m hO 0 c).after 6 t = iblk m hO c 6 t := by dsimp only [data]; try rfl
theorem left7 : (data m hO 0 c).after 7 t = iblk m hO c 7 t := by dsimp only [data]; try rfl
theorem left8 : (data m hO 0 c).after 8 t = iblk m hO c 8 t := by dsimp only [data]; try rfl
theorem left9 : (data m hO 0 c).after 9 t = iblk m hO c 9 t := by dsimp only [data]; try rfl
theorem left10 : (data m hO 0 c).after 10 t = iblk m hO c 10 t := by dsimp only [data]; try rfl
theorem left11 : (data m hO 0 c).after 11 t = iblk m hO c 11 t := by dsimp only [data]; try rfl
theorem left12 : (data m hO 0 c).after 12 t = iblk m hO c 12 t := by dsimp only [data]; try rfl
theorem left13 : (data m hO 0 c).after 13 t = iblk m hO c 13 t := by dsimp only [data]; try rfl
theorem left14 : (data m hO 0 c).after 14 t = iblk m hO c 14 t := by dsimp only [data]; try rfl
theorem left15 : (data m hO 0 c).after 15 t = iblk m hO c 15 t := by dsimp only [data]; try rfl
theorem left16 : (data m hO 0 c).after 16 t = iblk m hO c 16 t := by dsimp only [data]; try rfl
theorem left17 : (data m hO 0 c).after 17 t = iblk m hO c 17 t := by dsimp only [data]; try rfl
theorem left18 : (data m hO 0 c).after 18 t = iblk m hO c 18 t := by dsimp only [data]; try rfl
theorem left19 : (data m hO 0 c).after 19 t = iblk m hO c 19 t := by dsimp only [data]; try rfl
theorem left20 : (data m hO 0 c).after 20 t = outAt m hO c t := by dsimp only [data]; try rfl

theorem found0 (d) : (data m hO 0 c).before 0 t d = iblk m hO c 0 t :=
  before0_0_of m hO (data m hO 0 c) (data_array m hO c 0) (left0 m hO c) t d
theorem found1 (d) : (data m hO 0 c).before 1 t d = iblk m hO c 1 t :=
  before0_1_of m hO (data m hO 0 c) (data_array m hO c 1) (left1 m hO c) t d
theorem found2 (d) : (data m hO 0 c).before 2 t d = iblk m hO c 2 t :=
  before0_2_of m hO (data m hO 0 c) (data_array m hO c 2) (left2 m hO c) t d
theorem found3 (d) : (data m hO 0 c).before 3 t d = iblk m hO c 3 t :=
  before0_3_of m hO (data m hO 0 c) (data_array m hO c 3) (left3 m hO c) t d
theorem found4 (d) : (data m hO 0 c).before 4 t d = iblk m hO c 4 t :=
  before0_4_of m hO (data m hO 0 c) (data_array m hO c 4) (left4 m hO c) t d
theorem found5 (d) : (data m hO 0 c).before 5 t d = iblk m hO c 5 t :=
  before0_5_of m hO (data m hO 0 c) (data_array m hO c 5) (left5 m hO c) t d
theorem found6 (d) : (data m hO 0 c).before 6 t d = iblk m hO c 6 t :=
  before0_6_of m hO (data m hO 0 c) (data_array m hO c 6) (left6 m hO c) t d
theorem found7 (d) : (data m hO 0 c).before 7 t d = iblk m hO c 7 t :=
  before0_7_of m hO (data m hO 0 c) (data_array m hO c 7) (left7 m hO c) t d
theorem found8 (d) : (data m hO 0 c).before 8 t d = iblk m hO c 8 t :=
  before0_8_of m hO (data m hO 0 c) (data_array m hO c 8) (left8 m hO c) t d
theorem found9 (d) : (data m hO 0 c).before 9 t d = iblk m hO c 9 t :=
  before0_9_of m hO (data m hO 0 c) (data_array m hO c 9) (left9 m hO c) t d
theorem found10 (d) : (data m hO 0 c).before 10 t d = iblk m hO c 10 t :=
  before0_10_of m hO (data m hO 0 c) (data_array m hO c 10) (left10 m hO c) t d
theorem found11 (d) : (data m hO 0 c).before 11 t d = iblk m hO c 11 t :=
  before0_11_of m hO (data m hO 0 c) (data_array m hO c 11) (left11 m hO c) t d
theorem found12 (d) : (data m hO 0 c).before 12 t d = iblk m hO c 12 t :=
  before0_12_of m hO (data m hO 0 c) (data_array m hO c 12) (left12 m hO c) t d
theorem found13 (d) : (data m hO 0 c).before 13 t d = iblk m hO c 13 t :=
  before0_13_of m hO (data m hO 0 c) (data_array m hO c 13) (left13 m hO c) t d
theorem found14 (d) : (data m hO 0 c).before 14 t d = iblk m hO c 14 t :=
  before0_14_of m hO (data m hO 0 c) (data_array m hO c 14) (left14 m hO c) t d
theorem found15 (d) : (data m hO 0 c).before 15 t d = iblk m hO c 15 t :=
  before0_15_of m hO (data m hO 0 c) (data_array m hO c 15) (left15 m hO c) t d
theorem found16 (d) : (data m hO 0 c).before 16 t d = iblk m hO c 16 t :=
  before0_16_of m hO (data m hO 0 c) (data_array m hO c 16) (left16 m hO c) t d
theorem found17 (d) : (data m hO 0 c).before 17 t d = iblk m hO c 17 t :=
  before0_17_of m hO (data m hO 0 c) (data_array m hO c 17) (left17 m hO c) t d
theorem found18 (d) : (data m hO 0 c).before 18 t d = iblk m hO c 18 t :=
  before0_18_of m hO (data m hO 0 c) (data_array m hO c 18) (left18 m hO c) t d
theorem found19 (d) : (data m hO 0 c).before 19 t d = iblk m hO c 19 t :=
  before0_19_of m hO (data m hO 0 c) (data_array m hO c 19) (left19 m hO c) t d

/-- The staging buffers as the body finds them. -/
def entry : sProp 𝕄 :=
  iprop((data m hO 0 c).Φ t.castSucc ∗ (data m hO 0 c).owesAt () t.castSucc
    ∗ (∃ d, owns (c : Thread nD τ) (ms0_0 m hO t) fullShare ((data m hO 0 c).before 0 t d))
    ∗ (∃ d, owns (c : Thread nD τ) (ms0_1 m hO t) fullShare ((data m hO 0 c).before 1 t d))
    ∗ (∃ d, owns (c : Thread nD τ) (ms0_2 m hO t) fullShare ((data m hO 0 c).before 2 t d))
    ∗ (∃ d, owns (c : Thread nD τ) (ms0_3 m hO t) fullShare ((data m hO 0 c).before 3 t d))
    ∗ (∃ d, owns (c : Thread nD τ) (ms0_4 m hO t) fullShare ((data m hO 0 c).before 4 t d))
    ∗ (∃ d, owns (c : Thread nD τ) (ms0_5 m hO t) fullShare ((data m hO 0 c).before 5 t d))
    ∗ (∃ d, owns (c : Thread nD τ) (ms0_6 m hO t) fullShare ((data m hO 0 c).before 6 t d))
    ∗ (∃ d, owns (c : Thread nD τ) (ms0_7 m hO t) fullShare ((data m hO 0 c).before 7 t d))
    ∗ (∃ d, owns (c : Thread nD τ) (ms0_8 m hO t) fullShare ((data m hO 0 c).before 8 t d))
    ∗ (∃ d, owns (c : Thread nD τ) (ms0_9 m hO t) fullShare ((data m hO 0 c).before 9 t d))
    ∗ (∃ d, owns (c : Thread nD τ) (ms0_10 m hO t) fullShare ((data m hO 0 c).before 10 t d))
    ∗ (∃ d, owns (c : Thread nD τ) (ms0_11 m hO t) fullShare ((data m hO 0 c).before 11 t d))
    ∗ (∃ d, owns (c : Thread nD τ) (ms0_12 m hO t) fullShare ((data m hO 0 c).before 12 t d))
    ∗ (∃ d, owns (c : Thread nD τ) (ms0_13 m hO t) fullShare ((data m hO 0 c).before 13 t d))
    ∗ (∃ d, owns (c : Thread nD τ) (ms0_14 m hO t) fullShare ((data m hO 0 c).before 14 t d))
    ∗ (∃ d, owns (c : Thread nD τ) (ms0_15 m hO t) fullShare ((data m hO 0 c).before 15 t d))
    ∗ (∃ d, owns (c : Thread nD τ) (ms0_16 m hO t) fullShare ((data m hO 0 c).before 16 t d))
    ∗ (∃ d, owns (c : Thread nD τ) (ms0_17 m hO t) fullShare ((data m hO 0 c).before 17 t d))
    ∗ (∃ d, owns (c : Thread nD τ) (ms0_18 m hO t) fullShare ((data m hO 0 c).before 18 t d))
    ∗ (∃ d, owns (c : Thread nD τ) (ms0_19 m hO t) fullShare ((data m hO 0 c).before 19 t d))
    ∗ (∃ d, owns (c : Thread nD τ) (ms0_20 m hO t) fullShare ((data m hO 0 c).before 20 t d)))

/-- The staging buffers as the body leaves them. -/
def exit : sProp 𝕄 :=
  iprop((data m hO 0 c).Φ t.succ ∗ (data m hO 0 c).owesAt () t.succ
    ∗ owns (c : Thread nD τ) (ms0_0 m hO t) fullShare ((data m hO 0 c).after 0 t)
    ∗ owns (c : Thread nD τ) (ms0_1 m hO t) fullShare ((data m hO 0 c).after 1 t)
    ∗ owns (c : Thread nD τ) (ms0_2 m hO t) fullShare ((data m hO 0 c).after 2 t)
    ∗ owns (c : Thread nD τ) (ms0_3 m hO t) fullShare ((data m hO 0 c).after 3 t)
    ∗ owns (c : Thread nD τ) (ms0_4 m hO t) fullShare ((data m hO 0 c).after 4 t)
    ∗ owns (c : Thread nD τ) (ms0_5 m hO t) fullShare ((data m hO 0 c).after 5 t)
    ∗ owns (c : Thread nD τ) (ms0_6 m hO t) fullShare ((data m hO 0 c).after 6 t)
    ∗ owns (c : Thread nD τ) (ms0_7 m hO t) fullShare ((data m hO 0 c).after 7 t)
    ∗ owns (c : Thread nD τ) (ms0_8 m hO t) fullShare ((data m hO 0 c).after 8 t)
    ∗ owns (c : Thread nD τ) (ms0_9 m hO t) fullShare ((data m hO 0 c).after 9 t)
    ∗ owns (c : Thread nD τ) (ms0_10 m hO t) fullShare ((data m hO 0 c).after 10 t)
    ∗ owns (c : Thread nD τ) (ms0_11 m hO t) fullShare ((data m hO 0 c).after 11 t)
    ∗ owns (c : Thread nD τ) (ms0_12 m hO t) fullShare ((data m hO 0 c).after 12 t)
    ∗ owns (c : Thread nD τ) (ms0_13 m hO t) fullShare ((data m hO 0 c).after 13 t)
    ∗ owns (c : Thread nD τ) (ms0_14 m hO t) fullShare ((data m hO 0 c).after 14 t)
    ∗ owns (c : Thread nD τ) (ms0_15 m hO t) fullShare ((data m hO 0 c).after 15 t)
    ∗ owns (c : Thread nD τ) (ms0_16 m hO t) fullShare ((data m hO 0 c).after 16 t)
    ∗ owns (c : Thread nD τ) (ms0_17 m hO t) fullShare ((data m hO 0 c).after 17 t)
    ∗ owns (c : Thread nD τ) (ms0_18 m hO t) fullShare ((data m hO 0 c).after 18 t)
    ∗ owns (c : Thread nD τ) (ms0_19 m hO t) fullShare ((data m hO 0 c).after 19 t)
    ∗ owns (c : Thread nD τ) (ms0_20 m hO t) fullShare ((data m hO 0 c).after 20 t))

set_option maxHeartbeats 8000000 in
/-- The body at any grid point. -/
theorem at_point : entry m hO c t
    ⊢ wp frame (wpE (defs₀ (F := F)) Variants.none c none) Set.univ (bodyAt0 (adm m hO) t) (fun _ => exit m hO c t) := by
  unfold entry exit bodyAt0
  simp only [found0, found1, found2, found3, found4, found5, found6, found7, found8, found9, found10, found11, found12, found13, found14, found15, found16, found17, found18, found19]
  rw [show (data m hO 0 c).Φ t.succ = (data m hO 0 c).Φ t.castSucc from rfl,
    show (data m hO 0 c).owesAt () t.succ = (data m hO 0 c).owesAt () t.castSucc from rfl,
    left0, left1, left2, left3, left4, left5, left6, left7, left8, left9, left10, left11, left12, left13, left14, left15, left16, left17, left18, left19, left20]
  rw [show (data m hO 0 c).Φ t.castSucc = iprop(Pipeline.ΦA spec0 c ∗ Pipeline.ΦT pre0 (tbl m) c) from rfl, PhiT0_eq]
  unfold outAt block
  iintro ⟨⟨HΦ, ⟨HR, HC⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((stores c (grid0.coords t) _ _ _ _ _ _ _ _ _ _ _ _ _ _ _ _ _ _ _ _ _ _ _ _ _ _ _ _ _ _ _ _ _ _ _ _ _ _ _ _ _ _
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0) (tbl m 1)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [HR]; · iexact HR
  isplitl [HC]; · iexact HC
  iintro ⟨H0, H1, H2, H3, H4, H5, H6, H7, H8, H9, H10, H11, H12, H13, H14, H15, H16, H17, H18, H19, ⟨%e, H20⟩, HR, HC⟩
  isplitl [HΦ HR HC]
  · isplitl [HΦ]; · iexact HΦ
    isplitl [HR]; · iexact HR
    iexact HC
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  unfold owns; iexists _; isplitr
  swap; · iexact H20
  ipureintro
  exact View.read_writes_of_cover _ _ _ _ _ (stores_cover c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )

theorem body_row : defs₀ (F := F) .tc (cfgM m hO).body ((cfgM m hO).bodyArgs t ((cfgM m hO).slots t)) = bodyAt0 (adm m hO) t := by
  unfold defs₀; rw [Defs.onTc_tc]

theorem obligation : BodyObligation (data (F := F) m hO 0 c) (defs₀ (F := F)) Variants.none () Set.univ := fun t => by
  rw [bigSep_W0, bigSep_W0, body_row m hO]
  exact triple_restated (at_point m hO c t) rfl .rfl fun _ => .rfl

set_option backward.isDefEq.respectTransparency.types false in
set_option maxHeartbeats 4000000 in
/-- The launch with the counters. -/
theorem launched_zero : θ_run defs (onTc (τ := τ) (main (F := F))) (s₀ m ρ) (fun r =>
    (Pipeline.FramePost (Pipeline.pin pcfgs fun _ => adm m hO) (data m hO) 0
      (Pipeline.afterTail pcfgs (fun _ => adm m hO) (data m hO) 0 (V0 m) [hostOps1])) r ∧ r.2.sem = fun _ => 0) :=
  Pipeline.θ_run_frameP_around_shared (Q' := _) pcfgs (fun _ => adm m hO) (data m hO) (0 : Fin 1) launch₀0 defs₀ Variants.none m ρ main
    (hbody := fun c => (obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := data_array m hO) (hpf := V_pre m) (hΦ := fun _ _ => rfl)

/-- Where every array ends. -/
theorem launched : θ_run defs (onTc (τ := τ) (main (F := F))) (s₀ m ρ)
    (Pipeline.FramePost (Pipeline.pin pcfgs fun _ => adm m hO) (data m hO) 0
      (Pipeline.afterTail pcfgs (fun _ => adm m hO) (data m hO) 0 (V0 m) [hostOps1])) :=
  (θ_run defs _ _).mono (fun _ h => h.1) (launched_zero m ρ hO)

include hO in
/-- The arguments end unchanged and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ hO (data m hO) (data_array m hO) (launched m ρ hO))
    ((θ_run defs _ _).mono (fun _ h => h.2) (launched_zero m ρ hO))

end Cert.KernelIdeal.Body

end
-- ==== Proof.IdealTables.lean ====
/-
  The two prefetched tables: the boxes' rows and columns, flattened; and the tiles they name lie inside the map.
-/
module

public import proofs.«01_k».proof.Proof.Gen.KernelIdeal.Frame.Runs
public import proofs.«01_k».proof.Proof.Words
public import Idealize.ShloMosaic.Lib.Pointwise
public import Idealize.ShloMosaic.Lib.StableHlo.ReadAt

@[expose] public section

set_option maxRecDepth 16384

noncomputable section

namespace Cert.KernelIdeal.Body

open Idealize.ShloMosaic Idealize.ShloMosaic.TcCoe Cert.KernelIdeal.Gen Cert.Loss

variable {F : FTy → Type} [FloatOps F] (m : (ℓ : Loc nD τ sig) → Buf (Elt F) ℓ)

/-- The boxes as launched. -/
abbrev boxes : S8x16x4.Idx → BitVec 32 := m (((0 : Dev nD) : Thread nD τ).loc main_arg1)

theorem rows_at (k : Fin 128) : tbl m 0 (ix1 k) = boxes m (ix3 ⟨k.val / 16, by omega⟩ ⟨k.val % 16, by omega⟩ 0) := by
  show V m 0 main_v4 (ix1 k) = _
  unfold V
  after_reads_at

theorem cols_at (k : Fin 128) : tbl m 1 (ix1 k) = boxes m (ix3 ⟨k.val / 16, by omega⟩ ⟨k.val % 16, by omega⟩ 1) := by
  show V m 0 main_v5 (ix1 k) = _
  unfold V
  after_reads_at

variable (h : ∀ i, (boxes m i).toNat < 512)
include h

theorem row_lt (x : S128.Idx) : (tbl m 0 x : BitVec 32).toNat < 512 := by
  have e := rows_at m (x 0)
  rw [show (ix1 (x 0) : S128.Idx) = x from funext fun a => by fin_cases a; rfl] at e
  exact e ▸ h _

theorem col_lt (x : S128.Idx) : (tbl m 1 x : BitVec 32).toNat < 512 := by
  have e := cols_at m (x 0)
  rw [show (ix1 (x 0) : S128.Idx) = x from funext fun a => by fin_cases a; rfl] at e
  exact e ▸ h _

omit h in
theorem tile_inside (i : grid0.Coords) (r q : BitVec 32) (hr : r.toNat < 512) (hq : q.toNat < 512) :
    ∀ a, ((![(BitVec.ofNat 32 (i 0).val).toNat, 0, (fdiv r 8#32).toNat, (fdiv q 128#32).toNat] : Fin 4 → Nat) a + 1)
      * S1x9x8x128.size a ≤ S8x9x512x512.size a := by
  have hi : (i 0).val < 8 := (i 0).isLt
  intro a
  fin_cases a
  · show ((BitVec.ofNat 32 (i 0).val).toNat + 1) * 1 ≤ 8
    rw [BitVec.toNat_ofNat, Nat.mod_eq_of_lt (by omega)]; omega
  · show (0 + 1) * 9 ≤ 9; omega
  · show ((fdiv r 8#32).toNat + 1) * 8 ≤ 512; rw [fdiv_8 r hr]; omega
  · show ((fdiv q 128#32).toNat + 1) * 128 ≤ 512; rw [fdiv_128 q hq]; omega

/-- Every tile the tables name lies inside the map. -/
theorem tiles_ok : Ok m :=
  ⟨fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩,
    fun i => ⟨tile_inside i _ _ (row_lt m h _) (col_lt m h _), .inl rfl⟩⟩

end Cert.KernelIdeal.Body

end
-- ==== Proof.RefFrame.lean ====
/-
  The reference's run leaves its arguments as they were.
-/
module

public import proofs.«01_k».proof.Proof.Gen.ReferenceIdeal
public import Idealize.ShloMosaic.Lib.Claim
public import Idealize.ShloMosaic.Lib.Pointwise

@[expose] public section

set_option maxRecDepth 16384

noncomputable section

namespace Cert.ReferenceIdeal

open Idealize.ShloMosaic Idealize.SL.Sem Idealize.ShloMosaic.TcCoe

attribute [local instance] Gen.facts

set_option maxHeartbeats 4000000 in
theorem framed (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · exact sem_eq_zero_of_no_sems (by decide) _

end Cert.ReferenceIdeal

end
-- ==== Proof.IdealPrefix.lean ====
/-
  The operands that the lines before the kernel make, at an index.
-/
module

public import proofs.«01_k».proof.Proof.IdealTables
public import Idealize.ShloMosaic.Lib.Pointwise
public import Idealize.ShloMosaic.Lib.StableHlo.ReadAt

@[expose] public section

set_option maxRecDepth 16384

noncomputable section

namespace Cert.KernelIdeal.Body

open Idealize.ShloMosaic Idealize.ShloMosaic.TcCoe Cert.KernelIdeal.Gen Cert.Loss

variable (m : (ℓ : Loc nD τ sig) → Buf (Elt Ideal) ℓ)

/-- The policy's output and the targets' probabilities as launched. -/
abbrev policy : S8x9x512x512.Idx → EReal := m (((0 : Dev nD) : Thread nD τ).loc main_arg0)
@[inherit_doc policy] abbrev probs : S8x16.Idx → EReal := m (((0 : Dev nD) : Thread nD τ).loc main_arg2)

/-- A coordinate of a target, as a number. -/
def coord (b : Fin 8) (t : Fin 16) (k : Fin 4) : ℝ := ((boxes m (ix3 b t k)).toInt : ℝ)

theorem plane_at (b : Fin 8) (a k : Fin 3) (r q : Fin 512) : (V m 0 main_v51 : S8x3x3x512x512.Idx → EReal) (ix5 b a k r q)
    = policy m (ix4 b ⟨a.val * 3 + k.val, by omega⟩ r q) := by
  unfold V
  after_reads_at

theorem own0_at (b : Fin 8) (t : Fin 16) (l : Fin 9) (hl : l.val % 3 = 0) : (V m 0 main_v15 : S8x16x9.Idx → EReal) (ix3 b t l)
    = (coord m b t 0 : EReal) := by
  unfold V
  after_reads_at
  simp only [hl, Nat.reduceLT, ↓reduceDIte]
  after_reads_at
  rfl

theorem own1_at (b : Fin 8) (t : Fin 16) (l : Fin 9) (hl : l.val % 3 = 1) : (V m 0 main_v15 : S8x16x9.Idx → EReal) (ix3 b t l)
    = (coord m b t 1 : EReal) := by
  unfold V
  after_reads_at
  simp only [hl, Nat.reduceLT, ↓reduceDIte]
  after_reads_at
  rfl

theorem own2_at (b : Fin 8) (t : Fin 16) (l : Fin 9) (hl : l.val % 3 = 2) : (V m 0 main_v15 : S8x16x9.Idx → EReal) (ix3 b t l)
    = (0 : EReal) := by
  unfold V
  after_reads_at
  simp only [hl, Nat.reduceLT, ↓reduceDIte]
  after_reads_at

theorem tgt0_at (b : Fin 8) (t : Fin 16) (l : Fin 9) (hl : l.val % 3 = 0) : (V m 0 main_v28 : S8x16x9.Idx → EReal) (ix3 b t l)
    = (coord m b t 2 : EReal) := by
  unfold V
  after_reads_at
  simp only [hl, Nat.reduceLT, ↓reduceDIte]
  after_reads_at
  rfl

theorem tgt1_at (b : Fin 8) (t : Fin 16) (l : Fin 9) (hl : l.val % 3 = 1) : (V m 0 main_v28 : S8x16x9.Idx → EReal) (ix3 b t l)
    = (coord m b t 3 : EReal) := by
  unfold V
  after_reads_at
  simp only [hl, Nat.reduceLT, ↓reduceDIte]
  after_reads_at
  rfl

theorem tgt2_at (b : Fin 8) (t : Fin 16) (l : Fin 9) (hl : l.val % 3 = 2) : (V m 0 main_v28 : S8x16x9.Idx → EReal) (ix3 b t l)
    = probs m (ix2 b t) := by
  unfold V
  after_reads_at
  simp only [hl, Nat.reduceLT, ↓reduceDIte]
  after_reads_at

/-- The flag of a target that shares its cell with an earlier one. -/
theorem flag (a a' b b' : BitVec 32) (t u : Fin 16) :
    (FloatOps.uitofp (F := Ideal) .f32 (IntOp.andi (IntOp.andi (IntOp.cmpi .eq a a') (IntOp.cmpi .eq b b'))
      (IntOp.cmpi .sgt (BitVec.ofNat 32 t.val) (BitVec.ofNat 32 u.val))) : EReal)
    = if a = a' ∧ b = b' ∧ u < t then (1 : EReal) else 0 := by
  have e : IntOp.cmpi .sgt (BitVec.ofNat 32 t.val) (BitVec.ofNat 32 u.val) = BitVec.ofBool (decide (u < t)) := by
    revert t u; decide
  rw [e]
  have f1 : (a == a') = decide (a = a') := by by_cases h : a = a' <;> simp [h]
  have f2 : (b == b') = decide (b = b') := by by_cases h : b = b' <;> simp [h]
  by_cases h1 : a = a' <;> by_cases h2 : b = b' <;> by_cases h3 : u < t <;>
    simp [h1, h2, h3, IntOp.andi, IntOp.cmpi, FloatOps.uitofp, f1, f2]

theorem same_at (b : Fin 8) (t u : Fin 16) : (V m 0 main_v50 : S8x16x16.Idx → EReal) (ix3 b t u)
    = if boxes m (ix3 b t 0) = boxes m (ix3 b u 0) ∧ boxes m (ix3 b t 1) = boxes m (ix3 b u 1) ∧ u < t then (1 : EReal) else 0 := by
  unfold V
  after_reads_at
  exact flag _ _ _ _ t u

end Cert.KernelIdeal.Body

end
-- ==== Proof.IdealBody.lean ====
/-
  The output block as one expression: the dense plane's sum plus the correction gathered from the sixteen tiles.
-/
module

public import proofs.«01_k».proof.Proof.IdealFrame
public import Idealize.ShloMosaic.Lib.WholeRead
public import Idealize.ShloMosaic.Lib.WritesUnit
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

open Cert.KernelIdeal.Facts

/-- Reading a whole staging buffer from its origin gives its contents. -/
theorem whole_read {s : Shape} {e : EltTy} {a : Memref sig .tc .vmem s e} (w : a.IsWhole) (X : s.Idx → Elt F e)
    (o : Fin s.rank → Nat) (ho : ∀ k, o k = 0) (h : ∀ k, o k + s.size k ≤ s.size k) :
    View.readAt (Elt F) a.view (Rect.unit o s.size h).toLoadRect (w.unread X) = X := by
  funext y
  rw [w.readAt_unread]
  congr 1
  funext k
  apply Fin.ext
  simp [LoadRect.idx, Rect.unit, ho]

/-- The word a scalar load at offset `o` reads out of the row table. -/
def rowAt (c : Dev nD) (rows : TbBuf0 (F := F) c tbM0_0) (o : Fin 1 → Nat) (h : ∀ a, o a + S1.size a ≤ S128.size a) : BitVec 32 :=
  View.readAt (Elt F) tbM0_0.view (Rect.unit (s := S128) o S1.size h).toLoadRect rows (Shape.Idx.first (numel1_S1.symm ▸ Nat.one_pos))

/-- The same of the column table. -/
def colAt (c : Dev nD) (cols : TbBuf0 (F := F) c tbM0_1) (o : Fin 1 → Nat) (h : ∀ a, o a + S1.size a ≤ S128.size a) : BitVec 32 :=
  View.readAt (Elt F) tbM0_1.view (Rect.unit (s := S128) o S1.size h).toLoadRect cols (Shape.Idx.first (numel1_S1.symm ▸ Nat.one_pos))

/-- The correction from the squashed rows `s`, the launch blocks `rc` (own coordinates), `tg` (targets) and `em`. -/
def correction (s : FVec F S16x9 .f32) (rc tg : Vec F S1x16x9 .f32) (em : Vec F S1x16x16 .f32) : FVec F S1x1x1 .f32 :=
  k0_pay27 s (k0_pay22 3#32 k0_pay21 0#32) (k0_pay23 tg) (k0_pay24 s 3#32 k0_pay21 0#32 tg rc)
    (k0_pay25 s 3#32 k0_pay21 0#32 tg rc) (k0_pay26 tg) em

variable (c : Dev nD) (i : grid0.Coords)
  (a0 : Memref sig .tc .vmem S1x3x1x512x512 .f32) (w0 : a0.IsWhole)
  (a1 : Memref sig .tc .vmem S1x9x8x128 .f32) (w1 : a1.IsWhole)
  (a2 : Memref sig .tc .vmem S1x9x8x128 .f32) (w2 : a2.IsWhole)
  (a3 : Memref sig .tc .vmem S1x9x8x128 .f32) (w3 : a3.IsWhole)
  (a4 : Memref sig .tc .vmem S1x9x8x128 .f32) (w4 : a4.IsWhole)
  (a5 : Memref sig .tc .vmem S1x9x8x128 .f32) (w5 : a5.IsWhole)
  (a6 : Memref sig .tc .vmem S1x9x8x128 .f32) (w6 : a6.IsWhole)
  (a7 : Memref sig .tc .vmem S1x9x8x128 .f32) (w7 : a7.IsWhole)
  (a8 : Memref sig .tc .vmem S1x9x8x128 .f32) (w8 : a8.IsWhole)
  (a9 : Memref sig .tc .vmem S1x9x8x128 .f32) (w9 : a9.IsWhole)
  (a10 : Memref sig .tc .vmem S1x9x8x128 .f32) (w10 : a10.IsWhole)
  (a11 : Memref sig .tc .vmem S1x9x8x128 .f32) (w11 : a11.IsWhole)
  (a12 : Memref sig .tc .vmem S1x9x8x128 .f32) (w12 : a12.IsWhole)
  (a13 : Memref sig .tc .vmem S1x9x8x128 .f32) (w13 : a13.IsWhole)
  (a14 : Memref sig .tc .vmem S1x9x8x128 .f32) (w14 : a14.IsWhole)
  (a15 : Memref sig .tc .vmem S1x9x8x128 .f32) (w15 : a15.IsWhole)
  (a16 : Memref sig .tc .vmem S1x9x8x128 .f32) (w16 : a16.IsWhole)
  (a17 : Memref sig .tc .vmem S1x16x9 .f32) (w17 : a17.IsWhole)
  (a18 : Memref sig .tc .vmem S1x16x9 .f32) (w18 : a18.IsWhole)
  (a19 : Memref sig .tc .vmem S1x16x16 .f32) (w19 : a19.IsWhole)
  (a20 : Memref sig .tc .vmem S1x1x1 .f32) (w20 : a20.IsWhole)
  (x0 : Vec F S1x3x1x512x512 .f32)
  (x1 : Vec F S1x9x8x128 .f32)
  (x2 : Vec F S1x9x8x128 .f32)
  (x3 : Vec F S1x9x8x128 .f32)
  (x4 : Vec F S1x9x8x128 .f32)
  (x5 : Vec F S1x9x8x128 .f32)
  (x6 : Vec F S1x9x8x128 .f32)
  (x7 : Vec F S1x9x8x128 .f32)
  (x8 : Vec F S1x9x8x128 .f32)
  (x9 : Vec F S1x9x8x128 .f32)
  (x10 : Vec F S1x9x8x128 .f32)
  (x11 : Vec F S1x9x8x128 .f32)
  (x12 : Vec F S1x9x8x128 .f32)
  (x13 : Vec F S1x9x8x128 .f32)
  (x14 : Vec F S1x9x8x128 .f32)
  (x15 : Vec F S1x9x8x128 .f32)
  (x16 : Vec F S1x9x8x128 .f32)
  (x17 : Vec F S1x16x9 .f32)
  (x18 : Vec F S1x16x9 .f32)
  (x19 : Vec F S1x16x16 .f32)
  (rows : TbBuf0 (F := F) c tbM0_0) (cols : TbBuf0 (F := F) c tbM0_1)

/-- The sixteen rows the body extracts, stacked and squashed. -/
def squashed : FVec F S16x9 .f32 :=
  k0_pay20 (iota .tc S8x128 32 [0] iota_S8x128_d0_w32) (iota .tc S8x128 32 [1] iota_S8x128_d1_w32)
    (k0_pay3 (rowAt c rows (k0_off1 i 0#32) (k0_off1_inb i 0)) (colAt c cols (k0_off1 i 0#32) (k0_off1_inb i 0)) x1)
    (k0_pay3 (rowAt c rows (k0_off1 i 1#32) (k0_off1_inb i 1)) (colAt c cols (k0_off1 i 1#32) (k0_off1_inb i 1)) x2)
    (k0_pay3 (rowAt c rows (k0_off1 i 2#32) (k0_off1_inb i 2)) (colAt c cols (k0_off1 i 2#32) (k0_off1_inb i 2)) x3)
    (k0_pay3 (rowAt c rows (k0_off1 i 3#32) (k0_off1_inb i 3)) (colAt c cols (k0_off1 i 3#32) (k0_off1_inb i 3)) x4)
    (k0_pay3 (rowAt c rows (k0_off1 i 4#32) (k0_off1_inb i 4)) (colAt c cols (k0_off1 i 4#32) (k0_off1_inb i 4)) x5)
    (k0_pay3 (rowAt c rows (k0_off1 i 5#32) (k0_off1_inb i 5)) (colAt c cols (k0_off1 i 5#32) (k0_off1_inb i 5)) x6)
    (k0_pay3 (rowAt c rows (k0_off1 i 6#32) (k0_off1_inb i 6)) (colAt c cols (k0_off1 i 6#32) (k0_off1_inb i 6)) x7)
    (k0_pay3 (rowAt c rows (k0_off1 i 7#32) (k0_off1_inb i 7)) (colAt c cols (k0_off1 i 7#32) (k0_off1_inb i 7)) x8)
    (k0_pay3 (rowAt c rows (k0_off1 i 8#32) (k0_off1_inb i 8)) (colAt c cols (k0_off1 i 8#32) (k0_off1_inb i 8)) x9)
    (k0_pay3 (rowAt c rows (k0_off1 i 9#32) (k0_off1_inb i 9)) (colAt c cols (k0_off1 i 9#32) (k0_off1_inb i 9)) x10)
    (k0_pay3 (rowAt c rows (k0_off1 i 10#32) (k0_off1_inb i 10)) (colAt c cols (k0_off1 i 10#32) (k0_off1_inb i 10)) x11)
    (k0_pay3 (rowAt c rows (k0_off1 i 11#32) (k0_off1_inb i 11)) (colAt c cols (k0_off1 i 11#32) (k0_off1_inb i 11)) x12)
    (k0_pay3 (rowAt c rows (k0_off1 i 12#32) (k0_off1_inb i 12)) (colAt c cols (k0_off1 i 12#32) (k0_off1_inb i 12)) x13)
    (k0_pay3 (rowAt c rows (k0_off1 i 13#32) (k0_off1_inb i 13)) (colAt c cols (k0_off1 i 13#32) (k0_off1_inb i 13)) x14)
    (k0_pay19 (iota .tc S8x128 32 [0] iota_S8x128_d0_w32) (iota .tc S8x128 32 [1] iota_S8x128_d1_w32)
      (rowAt c rows (k0_off1 i 14#32) (k0_off1_inb i 14)) (colAt c cols (k0_off1 i 14#32) (k0_off1_inb i 14)) x15)
    (rowAt c rows (k0_off1 i 15#32) (k0_off1_inb i 15)) (colAt c cols (k0_off1 i 15#32) (k0_off1_inb i 15)) x16

set_option maxHeartbeats 4000000 in
theorem stores_eq : (stores c i a0 w0 a1 w1 a2 w2 a3 w3 a4 w4 a5 w5 a6 w6 a7 w7 a8 w8 a9 w9 a10 w10 a11 w11 a12 w12 a13 w13 a14 w14 a15 w15 a16 w16 a17 w17 a18 w18 a19 w19 a20 w20
      x0 x1 x2 x3 x4 x5 x6 x7 x8 x9 x10 x11 x12 x13 x14 x15 x16 x17 x18 x19 rows cols).1
    = [⟨Rect.unit ![0, 0, 0] ![1, 1, 1] inb_S1x1x1_S1x1x1_0_0_0,
        k0_pay1 (k0_pay2 x0) (correction (squashed c i x1 x2 x3 x4 x5 x6 x7 x8 x9 x10 x11 x12 x13 x14 x15 x16 rows cols) x17 x18 x19)⟩] := by
  unfold squashed correction rowAt colAt
  delta stores
  dsimp only
  simp only [stores.sl.v8, stores.sl.v9, stores.sl.v119, stores.sl.r, stores.sl.r_1, stores.sl.r_2, stores.sl.r_3, stores.sl.r_4, stores.sl.r_5, stores.sl.r_6, stores.sl.r_7, stores.sl.r_8, stores.sl.r_9, stores.sl.r_10, stores.sl.r_11, stores.sl.r_12, stores.sl.r_13, stores.sl.r_14, stores.sl.r_15, stores.sl.r_16, stores.sl.r_17, stores.sl.r_18, stores.sl.r_19, stores.sl.r_20, stores.sl.r_21, stores.sl.r_22, stores.sl.r_23, stores.sl.r_24, stores.sl.r_25, stores.sl.r_26, stores.sl.r_27, stores.sl.r_28, stores.sl.r_29, stores.sl.r_30, stores.sl.r_31, stores.sl.r_32, stores.sl.r_33, stores.sl.r_34, stores.sl.r_35, stores.sl.r_36, stores.sl.r_37, stores.sl.r_38, stores.sl.r_39, stores.sl.r_40, stores.sl.r_41, stores.sl.r_42, stores.sl.r_43, stores.sl.r_44, stores.sl.r_45, stores.sl.r_46, stores.sl.r_47, stores.sl.r_48, stores.sl.r_49, stores.sl.r_50, stores.sl.r_51, stores.sl.r_52, stores.sl.r_53, stores.sl.r_54, stores.sl.r_55, stores.sl.r_56,
    whole_read (s := S1x3x1x512x512) _ _ ![0, 0, 0, 0, 0] (by decide), whole_read (s := S1x9x8x128) _ _ ![0, 0, 0, 0] (by decide),
    whole_read (s := S1x16x9) _ _ ![0, 0, 0] (by decide), whole_read (s := S1x16x16) _ _ ![0, 0, 0] (by decide)]
  rfl

/-- The output block is that value everywhere (it has one entry). -/
theorem block_eq : block c i a0 w0 a1 w1 a2 w2 a3 w3 a4 w4 a5 w5 a6 w6 a7 w7 a8 w8 a9 w9 a10 w10 a11 w11 a12 w12 a13 w13 a14 w14 a15 w15 a16 w16 a17 w17 a18 w18 a19 w19 a20 w20
      x0 x1 x2 x3 x4 x5 x6 x7 x8 x9 x10 x11 x12 x13 x14 x15 x16 x17 x18 x19 rows cols
    = k0_pay1 (k0_pay2 x0) (correction (squashed c i x1 x2 x3 x4 x5 x6 x7 x8 x9 x10 x11 x12 x13 x14 x15 x16 rows cols) x17 x18 x19) := by
  unfold block
  rw [stores_eq]
  funext y
  exact View.read_writes_cons_unit_of_mem _ _ _ _ [] y y rfl fun a => by fin_cases a <;> exact (Nat.zero_add _).symm

end Cert.KernelIdeal.Body

end
-- ==== Proof.IdealBlocks.lean ====
/-
  The blocks that the body reads, at an index: the confidence plane, the sixteen tiles, and the three small operands.
-/
module

public import proofs.«01_k».proof.Proof.IdealPrefix
public import proofs.«01_k».proof.Proof.IdealBody
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Body

open Idealize.ShloMosaic Idealize.ShloMosaic.TcCoe Cert.KernelIdeal.Gen Cert.Loss

variable (m : (ℓ : Loc nD τ sig) → Buf (Elt Ideal) ℓ) (hO : Ok m)

theorem grid_at : ∀ t : Fin grid0.N, (grid0.coords t 0).val = t.val := by decide +kernel

theorem word_eight (t : Fin 8) : (BitVec.ofNat 32 t.val).toNat = t.val := by
  rw [BitVec.toNat_ofNat]; have := t.isLt; omega

theorem index_at (t : Fin grid0.N) : (BitVec.ofNat 32 (grid0.coords t 0).val).toNat = t.val := by
  rw [grid_at t]; exact word_eight ⟨t.val, t.isLt⟩

theorem rowAt_read (rows : TbBuf0 (F := Ideal) 0 tbM0_0) (o : Fin 1 → Nat) (h : ∀ a, o a + S1.size a ≤ S128.size a) :
    rowAt 0 rows o h = (rows : S128.Idx → BitVec 32) (ix1 ⟨o 0, by have := h 0; simp at this; omega⟩) := by
  unfold rowAt
  show (rows : S128.Idx → BitVec 32) _ = _
  congr 1
  funext a
  apply Fin.ext
  fin_cases a
  simp [LoadRect.idx, Rect.unit]

theorem colAt_read (cols : TbBuf0 (F := Ideal) 0 tbM0_1) (o : Fin 1 → Nat) (h : ∀ a, o a + S1.size a ≤ S128.size a) :
    colAt 0 cols o h = (cols : S128.Idx → BitVec 32) (ix1 ⟨o 0, by have := h 0; simp at this; omega⟩) := by
  unfold colAt
  show (cols : S128.Idx → BitVec 32) _ = _
  congr 1
  funext a
  apply Fin.ext
  fin_cases a
  simp [LoadRect.idx, Rect.unit]

theorem row_word (t : Fin grid0.N) (k : Fin 16) (h) : rowAt 0 (tbl m 0) (k0_off1 (grid0.coords t) (BitVec.ofNat 32 k.val)) h
    = boxes m (ix3 ⟨t.val, t.isLt⟩ k 0) := by
  refine (rowAt_read (tbl m 0) _ _).trans ?_
  have hk := k.isLt
  have e : k0_off1 (grid0.coords t) (BitVec.ofNat 32 k.val) 0 = 16 * t.val + k.val := by rw [k0_off1_eq, ← grid_at t]; rfl
  refine (rows_at m _).trans (congrArg (boxes m) ?_)
  funext a
  apply Fin.ext
  fin_cases a
  · show k0_off1 (grid0.coords t) (BitVec.ofNat 32 k.val) 0 / 16 = t.val
    omega
  · show k0_off1 (grid0.coords t) (BitVec.ofNat 32 k.val) 0 % 16 = k.val
    omega
  · rfl

theorem col_word (t : Fin grid0.N) (k : Fin 16) (h) : colAt 0 (tbl m 1) (k0_off1 (grid0.coords t) (BitVec.ofNat 32 k.val)) h
    = boxes m (ix3 ⟨t.val, t.isLt⟩ k 1) := by
  refine (colAt_read (tbl m 1) _ _).trans ?_
  have hk := k.isLt
  have e : k0_off1 (grid0.coords t) (BitVec.ofNat 32 k.val) 0 = 16 * t.val + k.val := by rw [k0_off1_eq, ← grid_at t]; rfl
  refine (cols_at m _).trans (congrArg (boxes m) ?_)
  funext a
  apply Fin.ext
  fin_cases a
  · show k0_off1 (grid0.coords t) (BitVec.ofNat 32 k.val) 0 / 16 = t.val
    omega
  · show k0_off1 (grid0.coords t) (BitVec.ofNat 32 k.val) 0 % 16 = k.val
    omega
  · rfl

theorem conf_blk (t : Fin (cfgM m hO).N) (a : Fin 3) (r q : Fin 512) : (iblk m hO 0 0 t : S1x3x1x512x512.Idx → EReal) (ix5 0 a 0 r q)
    = (V m 0 main_v51 : S8x3x3x512x512.Idx → EReal) (ix5 ⟨t.val, t.isLt⟩ a 2 r q) := by
  show (V m 0 main_v51 : S8x3x3x512x512.Idx → EReal) ((((cfgM m hO).win 0).blk t).view.emb (ix5 0 a 0 r q : S1x3x1x512x512.Idx)) = _
  congr 1
  funext k
  apply Fin.ext
  refine (Pipeline.Window.rect_emb_val ((cfgM m hO).win 0) t (ix5 0 a 0 r q : S1x3x1x512x512.Idx) k).trans ?_
  fin_cases k
  · exact (congrArg (· * 1 + 0) (index_at t)).trans (show t.val * 1 + 0 = t.val by omega)
  · exact (congrArg (· + a.val) (Nat.zero_mul 3)).trans (Nat.zero_add _)
  · rfl
  · exact (congrArg (· + r.val) (Nat.zero_mul 512)).trans (Nat.zero_add _)
  · exact (congrArg (· + q.val) (Nat.zero_mul 512)).trans (Nat.zero_add _)

/-- `x` is the tile of the plane of image `t` in which the cell of target `k` lies. -/
def IsTile (h : ∀ i, (boxes m i).toNat < 512) (t : Fin grid0.N) (k : Fin 16) (x : S1x9x8x128.Idx → EReal) : Prop :=
  ∀ (l : Fin 9) (y : Fin 8) (z : Fin 128), x (ix4 0 l y z) = (V m 0 main_arg0 : S8x9x512x512.Idx → EReal)
    (ix4 ⟨t.val, t.isLt⟩ l ⟨(boxes m (ix3 ⟨t.val, t.isLt⟩ k 0)).toNat / 8 * 8 + y.val, by have := h (ix3 ⟨t.val, t.isLt⟩ k 0); omega⟩
      ⟨(boxes m (ix3 ⟨t.val, t.isLt⟩ k 1)).toNat / 128 * 128 + z.val, by have := h (ix3 ⟨t.val, t.isLt⟩ k 1); omega⟩)

/-- A block is the tile of target `k` where its placement reads the tables at target `k`. -/
theorem isTile_of (h : ∀ i, (boxes m i).toNat < 512) (t : Fin grid0.N) (k : Fin 16) (x : S1x9x8x128.Idx → EReal)
    (e : S1x9x8x128.Idx → S8x9x512x512.Idx) (hx : ∀ j, x j = (V m 0 main_arg0 : S8x9x512x512.Idx → EReal) (e j))
    (o : Fin 4 → Nat) (he : ∀ j a, (e j a).val = o a * S1x9x8x128.size a + (j a).val)
    (h0 : o 0 = (BitVec.ofNat 32 (grid0.coords t 0).val).toNat) (h1 : o 1 = 0)
    (h2 : o 2 = (fdiv (rowAt 0 (tbl m 0) (k0_off1 (grid0.coords t) (BitVec.ofNat 32 k.val)) (k0_off1_inb (grid0.coords t) k)) 8#32).toNat)
    (h3 : o 3 = (fdiv (colAt 0 (tbl m 1) (k0_off1 (grid0.coords t) (BitVec.ofNat 32 k.val)) (k0_off1_inb (grid0.coords t) k)) 128#32).toNat) :
    IsTile m h t k x := by
  intro l y z
  refine (hx _).trans (congrArg (V m 0 main_arg0 : S8x9x512x512.Idx → EReal) ?_)
  funext a
  apply Fin.ext
  refine (he _ a).trans ?_
  fin_cases a
  · show o 0 * 1 + 0 = t.val
    rw [h0, index_at]
    omega
  · show o 1 * 9 + l.val = l.val
    rw [h1]
    omega
  · show o 2 * 8 + y.val = (boxes m (ix3 ⟨t.val, t.isLt⟩ k 0)).toNat / 8 * 8 + y.val
    rw [h2, ← fdiv_8 _ (h _)]
    exact congrArg (fun w => (fdiv w 8#32).toNat * 8 + y.val) (row_word m t k _)
  · show o 3 * 128 + z.val = (boxes m (ix3 ⟨t.val, t.isLt⟩ k 1)).toNat / 128 * 128 + z.val
    rw [h3, ← fdiv_128 _ (h _)]
    exact congrArg (fun w => (fdiv w 128#32).toNat * 128 + z.val) (col_word m t k _)

section
set_option maxHeartbeats 1000000
variable (h : ∀ i, (boxes m i).toNat < 512) (t : Fin (cfgM m hO).N)

theorem tile_blk0 : IsTile m h t 0 (iblk m hO 0 1 t) :=
  isTile_of m h t 0 _ (((cfgM m hO).win 1).blk t).view.emb (fun _ => rfl) (((cfgM m hO).win 1).index t)
    (Pipeline.Window.rect_emb_val ((cfgM m hO).win 1) t) rfl rfl rfl rfl
theorem tile_blk1 : IsTile m h t 1 (iblk m hO 0 2 t) :=
  isTile_of m h t 1 _ (((cfgM m hO).win 2).blk t).view.emb (fun _ => rfl) (((cfgM m hO).win 2).index t)
    (Pipeline.Window.rect_emb_val ((cfgM m hO).win 2) t) rfl rfl rfl rfl
theorem tile_blk2 : IsTile m h t 2 (iblk m hO 0 3 t) :=
  isTile_of m h t 2 _ (((cfgM m hO).win 3).blk t).view.emb (fun _ => rfl) (((cfgM m hO).win 3).index t)
    (Pipeline.Window.rect_emb_val ((cfgM m hO).win 3) t) rfl rfl rfl rfl
theorem tile_blk3 : IsTile m h t 3 (iblk m hO 0 4 t) :=
  isTile_of m h t 3 _ (((cfgM m hO).win 4).blk t).view.emb (fun _ => rfl) (((cfgM m hO).win 4).index t)
    (Pipeline.Window.rect_emb_val ((cfgM m hO).win 4) t) rfl rfl rfl rfl
theorem tile_blk4 : IsTile m h t 4 (iblk m hO 0 5 t) :=
  isTile_of m h t 4 _ (((cfgM m hO).win 5).blk t).view.emb (fun _ => rfl) (((cfgM m hO).win 5).index t)
    (Pipeline.Window.rect_emb_val ((cfgM m hO).win 5) t) rfl rfl rfl rfl
theorem tile_blk5 : IsTile m h t 5 (iblk m hO 0 6 t) :=
  isTile_of m h t 5 _ (((cfgM m hO).win 6).blk t).view.emb (fun _ => rfl) (((cfgM m hO).win 6).index t)
    (Pipeline.Window.rect_emb_val ((cfgM m hO).win 6) t) rfl rfl rfl rfl
theorem tile_blk6 : IsTile m h t 6 (iblk m hO 0 7 t) :=
  isTile_of m h t 6 _ (((cfgM m hO).win 7).blk t).view.emb (fun _ => rfl) (((cfgM m hO).win 7).index t)
    (Pipeline.Window.rect_emb_val ((cfgM m hO).win 7) t) rfl rfl rfl rfl
theorem tile_blk7 : IsTile m h t 7 (iblk m hO 0 8 t) :=
  isTile_of m h t 7 _ (((cfgM m hO).win 8).blk t).view.emb (fun _ => rfl) (((cfgM m hO).win 8).index t)
    (Pipeline.Window.rect_emb_val ((cfgM m hO).win 8) t) rfl rfl rfl rfl
theorem tile_blk8 : IsTile m h t 8 (iblk m hO 0 9 t) :=
  isTile_of m h t 8 _ (((cfgM m hO).win 9).blk t).view.emb (fun _ => rfl) (((cfgM m hO).win 9).index t)
    (Pipeline.Window.rect_emb_val ((cfgM m hO).win 9) t) rfl rfl rfl rfl
theorem tile_blk9 : IsTile m h t 9 (iblk m hO 0 10 t) :=
  isTile_of m h t 9 _ (((cfgM m hO).win 10).blk t).view.emb (fun _ => rfl) (((cfgM m hO).win 10).index t)
    (Pipeline.Window.rect_emb_val ((cfgM m hO).win 10) t) rfl rfl rfl rfl
theorem tile_blk10 : IsTile m h t 10 (iblk m hO 0 11 t) :=
  isTile_of m h t 10 _ (((cfgM m hO).win 11).blk t).view.emb (fun _ => rfl) (((cfgM m hO).win 11).index t)
    (Pipeline.Window.rect_emb_val ((cfgM m hO).win 11) t) rfl rfl rfl rfl
theorem tile_blk11 : IsTile m h t 11 (iblk m hO 0 12 t) :=
  isTile_of m h t 11 _ (((cfgM m hO).win 12).blk t).view.emb (fun _ => rfl) (((cfgM m hO).win 12).index t)
    (Pipeline.Window.rect_emb_val ((cfgM m hO).win 12) t) rfl rfl rfl rfl
theorem tile_blk12 : IsTile m h t 12 (iblk m hO 0 13 t) :=
  isTile_of m h t 12 _ (((cfgM m hO).win 13).blk t).view.emb (fun _ => rfl) (((cfgM m hO).win 13).index t)
    (Pipeline.Window.rect_emb_val ((cfgM m hO).win 13) t) rfl rfl rfl rfl
theorem tile_blk13 : IsTile m h t 13 (iblk m hO 0 14 t) :=
  isTile_of m h t 13 _ (((cfgM m hO).win 14).blk t).view.emb (fun _ => rfl) (((cfgM m hO).win 14).index t)
    (Pipeline.Window.rect_emb_val ((cfgM m hO).win 14) t) rfl rfl rfl rfl
theorem tile_blk14 : IsTile m h t 14 (iblk m hO 0 15 t) :=
  isTile_of m h t 14 _ (((cfgM m hO).win 15).blk t).view.emb (fun _ => rfl) (((cfgM m hO).win 15).index t)
    (Pipeline.Window.rect_emb_val ((cfgM m hO).win 15) t) rfl rfl rfl rfl
theorem tile_blk15 : IsTile m h t 15 (iblk m hO 0 16 t) :=
  isTile_of m h t 15 _ (((cfgM m hO).win 16).blk t).view.emb (fun _ => rfl) (((cfgM m hO).win 16).index t)
    (Pipeline.Window.rect_emb_val ((cfgM m hO).win 16) t) rfl rfl rfl rfl

end

theorem own_blk (t : Fin (cfgM m hO).N) (u : Fin 16) (l : Fin 9) : (iblk m hO 0 17 t : S1x16x9.Idx → EReal) (ix3 0 u l)
    = (V m 0 main_v15 : S8x16x9.Idx → EReal) (ix3 ⟨t.val, t.isLt⟩ u l) := by
  show (V m 0 main_v15 : S8x16x9.Idx → EReal) ((((cfgM m hO).win 17).blk t).view.emb (ix3 0 u l : S1x16x9.Idx)) = _
  congr 1
  funext k
  apply Fin.ext
  refine (Pipeline.Window.rect_emb_val ((cfgM m hO).win 17) t (ix3 0 u l : S1x16x9.Idx) k).trans ?_
  fin_cases k
  · exact (congrArg (· * 1 + 0) (index_at t)).trans (show t.val * 1 + 0 = t.val by omega)
  · exact (congrArg (· + u.val) (Nat.zero_mul 16)).trans (Nat.zero_add _)
  · exact (congrArg (· + l.val) (Nat.zero_mul 9)).trans (Nat.zero_add _)

theorem tgt_blk (t : Fin (cfgM m hO).N) (u : Fin 16) (l : Fin 9) : (iblk m hO 0 18 t : S1x16x9.Idx → EReal) (ix3 0 u l)
    = (V m 0 main_v28 : S8x16x9.Idx → EReal) (ix3 ⟨t.val, t.isLt⟩ u l) := by
  show (V m 0 main_v28 : S8x16x9.Idx → EReal) ((((cfgM m hO).win 18).blk t).view.emb (ix3 0 u l : S1x16x9.Idx)) = _
  congr 1
  funext k
  apply Fin.ext
  refine (Pipeline.Window.rect_emb_val ((cfgM m hO).win 18) t (ix3 0 u l : S1x16x9.Idx) k).trans ?_
  fin_cases k
  · exact (congrArg (· * 1 + 0) (index_at t)).trans (show t.val * 1 + 0 = t.val by omega)
  · exact (congrArg (· + u.val) (Nat.zero_mul 16)).trans (Nat.zero_add _)
  · exact (congrArg (· + l.val) (Nat.zero_mul 9)).trans (Nat.zero_add _)

theorem same_blk (t : Fin (cfgM m hO).N) (u v : Fin 16) : (iblk m hO 0 19 t : S1x16x16.Idx → EReal) (ix3 0 u v)
    = (V m 0 main_v50 : S8x16x16.Idx → EReal) (ix3 ⟨t.val, t.isLt⟩ u v) := by
  show (V m 0 main_v50 : S8x16x16.Idx → EReal) ((((cfgM m hO).win 19).blk t).view.emb (ix3 0 u v : S1x16x16.Idx)) = _
  congr 1
  funext k
  apply Fin.ext
  refine (Pipeline.Window.rect_emb_val ((cfgM m hO).win 19) t (ix3 0 u v : S1x16x16.Idx) k).trans ?_
  fin_cases k
  · exact (congrArg (· * 1 + 0) (index_at t)).trans (show t.val * 1 + 0 = t.val by omega)
  · exact (congrArg (· + u.val) (Nat.zero_mul 16)).trans (Nat.zero_add _)
  · exact (congrArg (· + v.val) (Nat.zero_mul 16)).trans (Nat.zero_add _)

end Cert.KernelIdeal.Body

end
-- ==== Proof.Squash.lean ====
/-
  The sixteen rows the body extracts at an index, and the sum over the confidence plane.
-/
module

public import proofs.«01_k».proof.Proof.Gen.KernelIdeal.Skeleton
public import Idealize.ShloMosaic.Lib.Pointwise

@[expose] public section

set_option maxRecDepth 16384

noncomputable section

namespace Cert.KernelIdeal.Body

open Idealize.ShloMosaic Cert.KernelIdeal.Gen

/-- One cell of a tile, picked by a masked sum. -/
theorem pick (r q : BitVec 32) (f : Fin 8 → Fin 128 → EReal) :
    (∑ x : Fin 8, ∑ y : Fin 128, Scalar.select (IntOp.andi (IntOp.cmpi .eq (BitVec.ofNat 32 x.val) (Scalar.andi r 7#32))
      (IntOp.cmpi .eq (BitVec.ofNat 32 y.val) (Scalar.andi q 127#32))) (f x y) (0 : EReal))
    = f ⟨r.toNat % 8, by omega⟩ ⟨q.toNat % 128, by omega⟩ := by
  have er : ∀ x : Fin 8, IntOp.cmpi .eq (BitVec.ofNat 32 x.val) (Scalar.andi r 7#32) = BitVec.ofBool (decide (x = ⟨r.toNat % 8, by omega⟩)) := by
    intro x
    have h : (BitVec.ofNat 32 x.val = Scalar.andi r 7#32) ↔ x = ⟨r.toNat % 8, by omega⟩ := by
      have e : (Scalar.andi r 7#32).toNat = r.toNat % 8 := by
        show (r &&& 7#32).toNat = _
        rw [BitVec.toNat_and]; exact Nat.and_two_pow_sub_one_eq_mod _ 3
      rw [← BitVec.toNat_inj, e, BitVec.toNat_ofNat, Nat.mod_eq_of_lt (by omega), Fin.ext_iff]
    show BitVec.ofBool (_ == _) = _
    congr 1
    by_cases g : BitVec.ofNat 32 x.val = Scalar.andi r 7#32
    · rw [decide_eq_true (h.1 g)]; exact beq_iff_eq.2 g
    · rw [decide_eq_false (fun k => g (h.2 k))]; exact beq_eq_false_iff_ne.2 g
  have eq : ∀ x : Fin 128, IntOp.cmpi .eq (BitVec.ofNat 32 x.val) (Scalar.andi q 127#32) = BitVec.ofBool (decide (x = ⟨q.toNat % 128, by omega⟩)) := by
    intro x
    have h : (BitVec.ofNat 32 x.val = Scalar.andi q 127#32) ↔ x = ⟨q.toNat % 128, by omega⟩ := by
      have e : (Scalar.andi q 127#32).toNat = q.toNat % 128 := by
        show (q &&& 127#32).toNat = _
        rw [BitVec.toNat_and]; exact Nat.and_two_pow_sub_one_eq_mod _ 7
      rw [← BitVec.toNat_inj, e, BitVec.toNat_ofNat, Nat.mod_eq_of_lt (by omega), Fin.ext_iff]
    show BitVec.ofBool (_ == _) = _
    congr 1
    by_cases g : BitVec.ofNat 32 x.val = Scalar.andi q 127#32
    · rw [decide_eq_true (h.1 g)]; exact beq_iff_eq.2 g
    · rw [decide_eq_false (fun k => g (h.2 k))]; exact beq_eq_false_iff_ne.2 g
  rw [Finset.sum_eq_single ⟨r.toNat % 8, by omega⟩ _ (by simp), Finset.sum_eq_single ⟨q.toNat % 128, by omega⟩ _ (by simp)]
  · rw [er, eq]; simp [IntOp.andi, Scalar.select]
  · intro y _ hy
    rw [er, eq]; simp [IntOp.andi, Scalar.select, hy]
  · intro x _ hx
    refine Finset.sum_eq_zero fun y _ => ?_
    rw [er, eq]; by_cases hy : y = ⟨q.toNat % 128, by omega⟩ <;> simp [IntOp.andi, Scalar.select, hx, hy]

/-- The cell of a tile that the words name. -/
def cellOf (r q : BitVec 32) (x : Vec Ideal S1x9x8x128 .f32) (l : Fin 9) : EReal :=
  (x : S1x9x8x128.Idx → EReal) (ix4 0 l ⟨r.toNat % 8, by omega⟩ ⟨q.toNat % 128, by omega⟩)

theorem extract_at (r q : BitVec 32) (x : Vec Ideal S1x9x8x128 .f32) (l : Fin 9) : k0_pay3 r q x (ix1 l) = cellOf r q x l := by
  pointwise [k0_pay3]
  exact pick r q fun a b => x (ix4 0 l a b)

/-- What the body stacks: row `t` squashed. -/
theorem stacked (r14 q14 r15 q15 : BitVec 32) (x14 x15 : Vec Ideal S1x9x8x128 .f32) (y0 y1 y2 y3 y4 y5 y6 y7 y8 y9 y10 y11 y12 y13 : FVec Ideal S9 .f32) (t : Fin 16) (l : Fin 9) :
    k0_pay20 (iota .tc S8x128 32 [0] iota_S8x128_d0_w32) (iota .tc S8x128 32 [1] iota_S8x128_d1_w32) y0 y1 y2 y3 y4 y5 y6 y7 y8 y9 y10 y11 y12 y13
      (k0_pay19 (iota .tc S8x128 32 [0] iota_S8x128_d0_w32) (iota .tc S8x128 32 [1] iota_S8x128_d1_w32) r14 q14 x14) r15 q15 x15 (ix2 t l)
    = Ideal.logistic ((![y0 (ix1 l), y1 (ix1 l), y2 (ix1 l), y3 (ix1 l), y4 (ix1 l), y5 (ix1 l), y6 (ix1 l), y7 (ix1 l), y8 (ix1 l), y9 (ix1 l), y10 (ix1 l), y11 (ix1 l), y12 (ix1 l), y13 (ix1 l), cellOf r14 q14 x14 l, cellOf r15 q15 x15 l] : Fin 16 → EReal) t) := by
  fin_cases t
  · pointwise [k0_pay20]
  · pointwise [k0_pay20]
  · pointwise [k0_pay20]
  · pointwise [k0_pay20]
  · pointwise [k0_pay20]
  · pointwise [k0_pay20]
  · pointwise [k0_pay20]
  · pointwise [k0_pay20]
  · pointwise [k0_pay20]
  · pointwise [k0_pay20]
  · pointwise [k0_pay20]
  · pointwise [k0_pay20]
  · pointwise [k0_pay20]
  · pointwise [k0_pay20]
  · pointwise [k0_pay20, k0_pay19]
    exact congrArg Ideal.logistic (pick r14 q14 fun a b => x14 (ix4 0 l a b))
  · pointwise [k0_pay20]
    exact congrArg Ideal.logistic (pick r15 q15 fun a b => x15 (ix4 0 l a b))

/-- The sum of the squared confidences over the plane. -/
theorem plane_sum (x : Vec Ideal S1x3x1x512x512 .f32) :
    k0_pay2 x = ∑ a : Fin 3, ∑ r : Fin 512, ∑ q : Fin 512, Ideal.logistic (x (ix5 0 a 0 r q)) * Ideal.logistic (x (ix5 0 a 0 r q)) := by
  pointwise [k0_pay2]
  unfold Ideal.reduceAdd
  have sub : Subsingleton S1.Idx := ⟨fun p q => funext fun a => by fin_cases a; exact Subsingleton.elim (α := Fin 1) _ _⟩
  rw [Finset.filter_true_of_mem (fun i _ => Subsingleton.elim _ _)]
  rw [sum_idx4]
  simp only [Fin.sum_univ_one, Finset.univ_unique, Finset.sum_singleton]
  refine Finset.sum_congr rfl fun a _ => Finset.sum_congr rfl fun r _ => Finset.sum_congr rfl fun q _ => ?_
  pointwise
end Cert.KernelIdeal.Body

end
-- ==== Proof.Near.lean ====
/-
  The correction that the kernel computes for the sixteen targets of an image, as a sum over targets and anchors.
-/
module

public import proofs.«01_k».proof.Proof.Gen.KernelIdeal.Skeleton
public import Idealize.ShloMosaic.Lib.Pointwise

@[expose] public section

set_option maxRecDepth 16384

noncomputable section

namespace Cert.Loss

open Idealize.ShloMosaic

theorem half_word : Ideal.ofBits .f32 0x3F000000#32 = ((1/2 : ℝ) : EReal) := by
  simp [Ideal.ofBits, Ideal.ieee]; rw [← EReal.coe_mul]; congr 1; norm_num

theorem two_word : Ideal.ofBits .f32 0x40000000#32 = ((2 : ℝ) : EReal) := by
  simp [Ideal.ofBits, Ideal.ieee]; rw [← EReal.coe_mul]; congr 1; norm_num

theorem nine_word : Ideal.ofBits .f32 0x41100000#32 = ((9 : ℝ) : EReal) := by
  simp [Ideal.ofBits, Ideal.ieee]; rw [← EReal.coe_mul]; congr 1; norm_num

theorem sixteen_word : Ideal.ofBits .f32 0x41800000#32 = ((16 : ℝ) : EReal) := by
  simp [Ideal.ofBits, Ideal.ieee]; rw [← EReal.coe_mul]; congr 1; norm_num

theorem edge_word : Ideal.ofBits .f32 0x43FF8000#32 = ((511 : ℝ) : EReal) := by
  simp [Ideal.ofBits, Ideal.ieee]; rw [← EReal.coe_mul]; congr 1; norm_num

/-- The kernel's test that a coordinate rounds to its target: nearer than a half, or at a half from an even target.
    `h` is the half of the target `t`. -/
def Near (a h t : EReal) : Prop :=
  a < ((1/2 : ℝ) : EReal) ∨ (a = ((1/2 : ℝ) : EReal) ∧ Ideal.liftRound Int.floor h * ((2 : ℝ) : EReal) = t)

instance (a h t : EReal) : Decidable (Near a h t) := Classical.dec _

theorem select_three {α : Type} (p q r : Prop) [Decidable p] [Decidable q] [Decidable r] (x y : α) :
    Scalar.select (IntOp.ori (BitVec.ofBool (decide p)) (IntOp.andi (BitVec.ofBool (decide q)) (BitVec.ofBool (decide r)))) x y
    = if p ∨ (q ∧ r) then x else y := by
  by_cases p <;> by_cases q <;> by_cases r <;> simp [*, Scalar.select, IntOp.ori, IntOp.andi]

theorem select_near {α : Type} (a h t : EReal) (x y : α) :
    Scalar.select (IntOp.ori (BitVec.ofBool (decide (a < ((1/2 : ℝ) : EReal))))
      (IntOp.andi (BitVec.ofBool (decide (a = ((1/2 : ℝ) : EReal))))
        (BitVec.ofBool (decide (Ideal.liftRound Int.floor h * ((2 : ℝ) : EReal) = t))))) x y
    = if Near a h t then x else y := by
  rw [select_three]
  exact if_congr Iff.rfl rfl rfl

end Cert.Loss

namespace Cert.KernelIdeal.Body

open Idealize.ShloMosaic Idealize.ShloMosaic.TcCoe Cert.KernelIdeal.Gen Cert.Loss

/-- The lanes of anchor `a`: row, column, confidence. -/
abbrev lane (a : Fin 3) (k : Fin 3) : Fin 9 := ⟨3 * a.val + k.val, by omega⟩

theorem lane_at (t : Fin 16) (l : Fin 9) : k0_pay22 3#32 k0_pay21 0#32 (ix2 t l) = BitVec.ofNat 32 (l.val % 3) := by
  pointwise [k0_pay22, k0_pay21]
  revert l; decide

section
variable (s : FVec Ideal S16x9 .f32) (rc tg : Vec Ideal S1x16x9 .f32) (em : Vec Ideal S1x16x16 .f32) (t : Fin 16) (a : Fin 3)

/-- The differences of the three lanes from their targets. -/
def offRow : EReal := min (rc (ix3 0 t (lane a 0)) + s (ix2 t (lane a 0)) * ((9 : ℝ) : EReal)) ((511 : ℝ) : EReal) - tg (ix3 0 t (lane a 0))
@[inherit_doc offRow] def offCol : EReal :=
  min (rc (ix3 0 t (lane a 1)) + s (ix2 t (lane a 1)) * ((16 : ℝ) : EReal)) ((511 : ℝ) : EReal) - tg (ix3 0 t (lane a 1))
@[inherit_doc offRow] def offConf : EReal :=
  min (rc (ix3 0 t (lane a 2)) + s (ix2 t (lane a 2))) ((2 : ℝ) : EReal) - tg (ix3 0 t (lane a 2))

/-- The target is met at its own cell. -/
def Hit : Prop :=
  Near (FloatOps.absf (F := Ideal) (φ := .f32) (offRow s rc tg t a)) (tg (ix3 0 t (lane a 0)) * ((1/2 : ℝ) : EReal)) (tg (ix3 0 t (lane a 0)))
  ∧ Near (FloatOps.absf (F := Ideal) (φ := .f32) (offCol s rc tg t a)) (tg (ix3 0 t (lane a 1)) * ((1/2 : ℝ) : EReal)) (tg (ix3 0 t (lane a 1)))

instance : Decidable (Hit s rc tg t a) := Classical.dec _

theorem row_diff : k0_pay24 s 3#32 k0_pay21 0#32 tg rc (ix2 t (lane a 0)) = offRow s rc tg t a := by
  pointwise [k0_pay24, k0_pay23, lane_at]
  simp only [nine_word, sixteen_word, edge_word, two_word, offRow]
  fin_cases a <;> rfl

theorem col_diff : k0_pay24 s 3#32 k0_pay21 0#32 tg rc (ix2 t (lane a 1)) = offCol s rc tg t a := by
  pointwise [k0_pay24, k0_pay23, lane_at]
  simp only [nine_word, sixteen_word, edge_word, two_word, offCol]
  fin_cases a <;> rfl

theorem conf_diff : k0_pay24 s 3#32 k0_pay21 0#32 tg rc (ix2 t (lane a 2)) = offConf s rc tg t a := by
  pointwise [k0_pay24, k0_pay23, lane_at]
  simp only [nine_word, sixteen_word, edge_word, two_word, offConf]
  have key : ∀ u v w k : EReal, min (u + v * 1) w - k = min (u + v) w - k := fun u v w k => by rw [mul_one]
  fin_cases a <;> exact key _ _ _ _

theorem abs_diff (l : Fin 9) : k0_pay25 s 3#32 k0_pay21 0#32 tg rc (ix2 t l)
    = FloatOps.absf (F := Ideal) (φ := .f32) (k0_pay24 s 3#32 k0_pay21 0#32 tg rc (ix2 t l)) := by
  pointwise [k0_pay25]

theorem half_target (l : Fin 9) : k0_pay26 tg (ix2 t l) = tg (ix3 0 t l) * ((1/2 : ℝ) : EReal) := by
  pointwise [k0_pay26, k0_pay23, half_word]

theorem whole_target (l : Fin 9) : k0_pay23 tg (ix2 t l) = tg (ix3 0 t l) := by
  pointwise [k0_pay23]

end

/-- A sum over nine lanes of which three count. -/
theorem nine {a0 a1 a2 a3 a4 a5 a6 a7 a8 x y z : EReal} (h0 : a0 = x) (h1 : a1 = 0) (h2 : a2 = 0) (h3 : a3 = y) (h4 : a4 = 0)
    (h5 : a5 = 0) (h6 : a6 = z) (h7 : a7 = 0) (h8 : a8 = 0) :
    a0 + a1 + a2 + a3 + a4 + a5 + a6 + a7 + a8 = x + y + z := by
  subst_vars
  simp

section
variable (s p23 p24 p25 p26 : FVec Ideal S16x9 .f32) (em : Vec Ideal S1x16x16 .f32)

/-- What the lanes `l0`, `l1`, `l2` of target `t` contribute. -/
def part (t : Fin 16) (l0 l1 l2 : Fin 9) : EReal :=
  if Near (p25 (ix2 t l0)) (p26 (ix2 t l0)) (p23 (ix2 t l0)) ∧ Near (p25 (ix2 t l1)) (p26 (ix2 t l1)) (p23 (ix2 t l1)) then
    (if ((1/2 : ℝ) : EReal) < ∑ u : Fin 16,
        (if Near (p25 (ix2 u l0)) (p26 (ix2 u l0)) (p23 (ix2 u l0)) ∧ Near (p25 (ix2 u l1)) (p26 (ix2 u l1)) (p23 (ix2 u l1)) then em (ix3 0 t u) else 0) then 0 else 1)
      * (p25 (ix2 t l0) + p25 (ix2 t l1) + (p24 (ix2 t l2) * p24 (ix2 t l2) - s (ix2 t l2) * s (ix2 t l2)))
  else 0

theorem combine (lm : IVec S16x9 32) (hl : ∀ t l, lm (ix2 t l) = BitVec.ofNat 32 (l.val % 3)) :
    k0_pay27 s lm p23 p24 p25 p26 em (ix3 0 0 0)
      = ∑ t : Fin 16, ∑ a : Fin 3, part s p23 p24 p25 p26 em t (lane a 0) (lane a 1) (lane a 2) := by
  pointwise [k0_pay27]
  simp only [hl, half_word, two_word, select_near, ← ite_and]
  refine Finset.sum_congr rfl fun t _ => ?_
  change (∑ x : Fin 7, Scalar.select (IntOp.cmpi .eq (BitVec.ofNat 32 (x.val % 3)) 0#32)
      (part s p23 p24 p25 p26 em t ⟨x.val, by omega⟩ ⟨1 + x.val, by omega⟩ ⟨2 + x.val, by omega⟩) 0)
    + (∑ _ : Fin 1, Scalar.select (IntOp.cmpi .eq (BitVec.ofNat 32 ((7 : Fin 9).val % 3)) 0#32)
        (part s p23 p24 p25 p26 em t 7 8 0) 0)
    + (∑ _ : Fin 1, Scalar.select (IntOp.cmpi .eq (BitVec.ofNat 32 ((8 : Fin 9).val % 3)) 0#32)
        (part s p23 p24 p25 p26 em t 8 0 1) 0) = _
  generalize part s p23 p24 p25 p26 em t = P
  simp only [Fin.sum_univ_seven, Fin.sum_univ_three, Finset.univ_unique, Finset.sum_singleton]
  exact nine rfl rfl rfl rfl rfl rfl rfl rfl rfl

end

/-- The correction from the stacked rows `s` and the launch blocks. -/
def correctionSum (s : FVec Ideal S16x9 .f32) (rc tg : Vec Ideal S1x16x9 .f32) (em : Vec Ideal S1x16x16 .f32) : EReal :=
  ∑ t : Fin 16, ∑ a : Fin 3,
    if Hit s rc tg t a then
      (if ((1/2 : ℝ) : EReal) < ∑ u : Fin 16, (if Hit s rc tg u a then em (ix3 0 t u) else 0) then 0 else 1)
        * (FloatOps.absf (F := Ideal) (φ := .f32) (offRow s rc tg t a) + FloatOps.absf (F := Ideal) (φ := .f32) (offCol s rc tg t a)
          + (offConf s rc tg t a * offConf s rc tg t a - s (ix2 t (lane a 2)) * s (ix2 t (lane a 2))))
    else 0

theorem correction_eq (s : FVec Ideal S16x9 .f32) (rc tg : Vec Ideal S1x16x9 .f32) (em : Vec Ideal S1x16x16 .f32) :
    k0_pay27 s (k0_pay22 3#32 k0_pay21 0#32) (k0_pay23 tg) (k0_pay24 s 3#32 k0_pay21 0#32 tg rc)
      (k0_pay25 s 3#32 k0_pay21 0#32 tg rc) (k0_pay26 tg) em (ix3 0 0 0) = correctionSum s rc tg em := by
  rw [combine _ _ _ _ _ _ _ lane_at]
  refine Finset.sum_congr rfl fun t _ => Finset.sum_congr rfl fun a _ => ?_
  unfold part
  simp only [abs_diff, half_target, whole_target, row_diff, col_diff, conf_diff]
  refine if_congr Iff.rfl (congrArg (· * _) (if_congr (iff_of_eq (congrArg _ ?_)) rfl rfl)) rfl
  exact Finset.sum_congr rfl fun u _ => if_congr Iff.rfl rfl rfl

end Cert.KernelIdeal.Body

end
-- ==== Proof.Spec.lean ====
/-
  The loss at a cell of the grid, over the three arguments.
-/
module

public import proofs.«01_k».proof.Proof.Near

@[expose] public section

set_option maxRecDepth 16384

noncomputable section

namespace Cert.Loss

open Idealize.ShloMosaic

/-- The three arguments. -/
abbrev Policy := (⟨4, ![8, 9, 512, 512]⟩ : Shape).Idx → EReal
@[inherit_doc Policy] abbrev Boxes := (⟨3, ![8, 16, 4]⟩ : Shape).Idx → BitVec 32
@[inherit_doc Policy] abbrev Probs := (⟨2, ![8, 16]⟩ : Shape).Idx → EReal

theorem one_word : Ideal.ofBits .f32 0x3F800000#32 = 1 := by
  simp [Ideal.ofBits, Ideal.ieee]; rw [← EReal.coe_mul]; norm_num
theorem zero_word : Ideal.ofBits .f32 0x00000000#32 = 0 := by
  simp [Ideal.ofBits, Ideal.ieee]

variable (P : Policy) (B : Boxes) (Q : Probs) (b : Fin 8) (a : Fin 3) (r q : Fin 512) (t : Fin 16)

/-- The squashed channel `k` of anchor `a` at a cell. -/
def sig (k : Fin 3) : EReal := Ideal.logistic (P (ix4 b ⟨a.val * 3 + k.val, by omega⟩ r q))

/-- The predicted row and column. -/
def predRow : EReal := min ((511 : ℝ) : EReal) (max 0 (((r.val : ℝ) : EReal) + sig P b a r q 0 * ((9 : ℝ) : EReal)))
@[inherit_doc predRow] def predCol : EReal := min ((511 : ℝ) : EReal) (max 0 (((q.val : ℝ) : EReal) + sig P b a r q 1 * ((16 : ℝ) : EReal)))

/-- A coordinate of a target, as a number. -/
def num (k : Fin 4) : EReal := (((B (ix3 b t k)).toInt : ℝ) : EReal)

/-- Target `t` matches anchor `a` at the cell. -/
def Match : Prop :=
  BitVec.ofNat 32 r.val = B (ix3 b t 0) ∧ BitVec.ofNat 32 q.val = B (ix3 b t 1)
    ∧ Ideal.fptosi 32 (Ideal.liftRound Ideal.roundHalfEven (predRow P b a r q)) = B (ix3 b t 2)
    ∧ Ideal.fptosi 32 (Ideal.liftRound Ideal.roundHalfEven (predCol P b a r q)) = B (ix3 b t 3)

/-- The loss of a cell that target `t` matches first. -/
def hitLoss : EReal :=
  (FloatOps.absf (F := Ideal) (φ := .f32) (predRow P b a r q - num B b t 2) + FloatOps.absf (F := Ideal) (φ := .f32) (predCol P b a r q - num B b t 3))
    + (sig P b a r q 2 - Q (ix2 b t)) * (sig P b a r q 2 - Q (ix2 b t))

/-- The loss of a cell that no target matches. -/
def missLoss : EReal := sig P b a r q 2 * sig P b a r q 2

end Cert.Loss

end
-- ==== Proof.Rounding.lean ====
module

public import Idealize.ShloMosaic.Lib.Pointwise

@[expose] public section

noncomputable section

namespace Cert.Loss

open Idealize.ShloMosaic

/-! The scalar facts: the sigmoid is a real number in [0, 1]; rounding half to even meets an integer exactly
when the distance is below one half, or is one half and the integer is even. -/

/-- The sigmoid of an extended real is a real number between 0 and 1. -/
theorem logistic_unit (x : EReal) : ∃ r : ℝ, 0 ≤ r ∧ r ≤ 1 ∧ Ideal.logistic x = (r : EReal) := by
  induction x using EReal.rec with
  | bot => exact ⟨0, le_refl _, zero_le_one, by rw [Ideal.logistic_bot, EReal.coe_zero]⟩
  | top => exact ⟨1, zero_le_one, le_refl _, by rw [Ideal.logistic_top, EReal.coe_one]⟩
  | coe v =>
    have h : 0 < Real.exp (-v) := Real.exp_pos _
    refine ⟨(1 + Real.exp (-v))⁻¹, by positivity, ?_, Ideal.logistic_coe v⟩
    exact inv_le_one_of_one_le₀ (by linarith)

/-- Half-to-even rounding gives the integer `n` exactly when the distance to `n` is below one half, or is one
half and `n` is even. -/
theorem roundHalfEven_eq_iff (p : ℝ) (n : ℤ) :
    Ideal.roundHalfEven p = n ↔ |p - n| < 1 / 2 ∨ (|p - n| = 1 / 2 ∧ Even n) := by
  have h1 := Int.floor_le p
  have h2 := Int.lt_floor_add_one p
  unfold Ideal.roundHalfEven
  dsimp only
  generalize hf : ⌊p⌋ = f at *
  have hn : n ≤ f - 1 ∨ n = f ∨ n = f + 1 ∨ f + 2 ≤ n := by omega
  have hev : Even (f + 1) ↔ ¬ Even f := Int.even_add_one
  rcases hn with hn | rfl | rfl | hn
  · have hr : (n : ℝ) ≤ (f : ℝ) - 1 := by exact_mod_cast hn
    have ha : |p - n| = p - n := abs_of_nonneg (by linarith)
    rw [ha]
    constructor
    · intro h; exfalso
      split_ifs at h <;> omega
    · rintro (h | ⟨h, -⟩) <;> (exfalso; linarith)
  · have ha : |p - n| = p - n := abs_of_nonneg (by linarith)
    rw [ha]
    split_ifs with c1 c2 c3
    · exact ⟨fun _ => .inl c1, fun _ => rfl⟩
    · exact ⟨fun h => by omega, by rintro (h | ⟨h, -⟩) <;> (exfalso; linarith)⟩
    · exact ⟨fun _ => .inr ⟨by linarith, c3⟩, fun _ => rfl⟩
    · exact ⟨fun h => by omega, by rintro (h | ⟨-, h⟩) <;> [(exfalso; linarith); exact absurd h c3]⟩
  · push_cast
    have ha : |p - (f + 1 : ℝ)| = f + 1 - p := by rw [abs_of_nonpos (by linarith)]; ring
    rw [ha]
    split_ifs with c1 c2 c3
    · exact ⟨fun h => by omega, by rintro (h | ⟨h, -⟩) <;> (exfalso; linarith)⟩
    · exact ⟨fun _ => .inl (by linarith), fun _ => rfl⟩
    · exact ⟨fun h => by omega, by rintro (h | ⟨-, h⟩) <;> [(exfalso; linarith); exact absurd c3 (hev.1 h)]⟩
    · exact ⟨fun _ => .inr ⟨by linarith, hev.2 c3⟩, fun _ => rfl⟩
  · have hr : (f : ℝ) + 2 ≤ (n : ℝ) := by exact_mod_cast hn
    have ha : |p - n| = n - p := by rw [abs_of_nonpos (by linarith)]; ring
    rw [ha]
    constructor
    · intro h; exfalso
      split_ifs at h <;> omega
    · rintro (h | ⟨h, -⟩) <;> (exfalso; linarith)

/-- Halving, rounding down and doubling gives an integer back exactly when it is even. -/
theorem floor_half_eq_iff (n : ℤ) :
    Ideal.liftRound Int.floor (((n : ℝ) : EReal) * ((1 / 2 : ℝ) : EReal)) * ((2 : ℝ) : EReal) = ((n : ℝ) : EReal) ↔ Even n := by
  rw [← EReal.coe_mul, Ideal.liftRound_coe, ← EReal.coe_mul, EReal.coe_eq_coe_iff]
  have h1 := Int.floor_le ((n : ℝ) * (1 / 2))
  have h2 := Int.lt_floor_add_one ((n : ℝ) * (1 / 2))
  generalize ⌊(n : ℝ) * (1 / 2)⌋ = f at *
  constructor
  · intro h
    have h' : f * 2 = n := by exact_mod_cast h
    exact ⟨f, by omega⟩
  · rintro ⟨k, rfl⟩
    push_cast at *
    have a1 : f ≤ k := by
      have : (f : ℝ) ≤ k := by linarith
      exact_mod_cast this
    have a2 : k < f + 1 := by
      have : (k : ℝ) < f + 1 := by linarith
      exact_mod_cast this
    have : f = k := by omega
    subst this; ring

/-- A real number in [0, 511] rounded half to even and converted to a 32-bit word is the word `w`, a number in
[0, 512), exactly when it lies nearest to it. -/
theorem round_word_iff (p : ℝ) (h0 : 0 ≤ p) (h1 : p ≤ 511) (w : BitVec 32) (hw : w.toNat < 512) :
    Ideal.fptosi 32 (Ideal.liftRound Ideal.roundHalfEven (p : EReal)) = w
      ↔ |p - w.toInt| < 1 / 2 ∨ (|p - w.toInt| = 1 / 2 ∧ Even w.toInt) := by
  rw [← roundHalfEven_eq_iff, Ideal.liftRound_coe]
  have hz : 0 ≤ Ideal.roundHalfEven p ∧ Ideal.roundHalfEven p ≤ 511 := by
    have := (roundHalfEven_eq_iff p (Ideal.roundHalfEven p)).1 rfl
    generalize Ideal.roundHalfEven p = z at *
    have hb : |p - z| ≤ 1 / 2 := by rcases this with h | ⟨h, -⟩ <;> linarith
    rw [abs_le] at hb
    have a1 : (-1 : ℝ) < z := by linarith
    have a2 : (z : ℝ) < 512 := by linarith
    have a1' : (-1 : ℤ) < z := by exact_mod_cast a1
    have a2' : z < 512 := by exact_mod_cast a2
    omega
  generalize Ideal.roundHalfEven p = z at *
  unfold Ideal.fptosi
  rw [Ideal.toIntClamped_coe, Int.floor_intCast, Int.ceil_intCast, ite_self]
  have hm : max (-((2 ^ (32 - 1) : ℕ) : ℤ)) (min (((2 ^ (32 - 1) : ℕ) : ℤ) - 1) z) = z := by
    norm_num; omega
  rw [hm]
  have hwi : w.toInt = w.toNat := BitVec.toInt_eq_toNat_of_lt (by omega)
  constructor
  · rintro rfl
    rw [BitVec.toInt_ofInt]
    simp only [Int.bmod]; omega
  · rintro rfl
    exact BitVec.ofInt_toInt

end Cert.Loss
-- ==== Proof.FirstMatch.lean ====
module

public import Idealize.ShloMosaic.Lib.Pointwise

@[expose] public section

noncomputable section

namespace Cert.Loss

/-! The counting argument: a sum over cells in which a cell takes the value of its first matching target is the
sum of the unmatched values plus, for each target that is the first match of its cell, the difference. -/

/-- A real number added to the difference to it gives the other term back, at the infinities as well. -/
theorem base_add_sub (b : ℝ) (v : EReal) : (b : EReal) + (v - b) = v := by
  induction v using EReal.rec with
  | bot => simp
  | top => simp
  | coe r => norm_cast; ring

/-- The sum over the cells. `q t` is the cell of target `t`, `M t` says that the target matches there, `v t` is
the value it then gives and `base k` is the value of a cell that no target matches. -/
theorem sum_first {κ : Type} [Fintype κ] [DecidableEq κ] {n : ℕ} (q : Fin n → κ) (M : Fin n → Prop) [DecidablePred M]
    (base : κ → ℝ) (v : Fin n → EReal) (val : κ → EReal)
    (hv : ∀ k t, q t = k → M t → (∀ t' < t, ¬ (q t' = k ∧ M t')) → val k = v t)
    (hb : ∀ k, (∀ t, ¬ (q t = k ∧ M t)) → val k = base k) :
    ∑ k, val k = ∑ k, (base k : EReal)
      + ∑ t, if M t ∧ ∀ t' < t, ¬ (q t' = q t ∧ M t') then v t - base (q t) else 0 := by
  classical
  have point : ∀ k, val k = (base k : EReal)
      + ∑ t, if q t = k ∧ M t ∧ ∀ t' < t, ¬ (q t' = k ∧ M t') then v t - base k else 0 := by
    intro k
    by_cases h : ∃ t, q t = k ∧ M t
    · have hne : (Finset.univ.filter fun t => q t = k ∧ M t).Nonempty := by
        obtain ⟨t, ht⟩ := h; exact ⟨t, by simp [ht]⟩
      obtain ⟨f, hmin, hle⟩ : ∃ f, (q f = k ∧ M f) ∧ ∀ t, q t = k ∧ M t → f ≤ t := by
        refine ⟨_, (Finset.mem_filter.1 (Finset.min'_mem _ hne)).2, fun t ht => Finset.min'_le _ t ?_⟩
        exact Finset.mem_filter.2 ⟨Finset.mem_univ _, ht⟩
      have hf : ∀ t' < f, ¬ (q t' = k ∧ M t') := fun t' ht' hc => absurd (hle t' hc) (not_le.2 ht')
      rw [Finset.sum_eq_single f, if_pos ⟨hmin.1, hmin.2, hf⟩, hv k f hmin.1 hmin.2 hf, base_add_sub]
      · intro t _ hne
        refine if_neg fun hc => ?_
        rcases lt_or_gt_of_ne hne with hlt | hlt
        · exact hf t hlt ⟨hc.1, hc.2.1⟩
        · exact hc.2.2 f hlt hmin
      · intro hc; exact absurd (Finset.mem_univ f) hc
    · have h' : ∀ t, ¬ (q t = k ∧ M t) := fun t ht => h ⟨t, ht⟩
      rw [hb k h', Finset.sum_eq_zero, add_zero]
      intro t _
      exact if_neg fun hc => h' t ⟨hc.1, hc.2.1⟩
  rw [Finset.sum_congr rfl fun k _ => point k, Finset.sum_add_distrib, Finset.sum_comm]
  congr 1
  refine Finset.sum_congr rfl fun t _ => ?_
  rw [Finset.sum_eq_single (q t)]
  · simp only [true_and]
  · intro k _ hk
    exact if_neg fun hc => hk hc.1.symm
  · intro hc; exact absurd (Finset.mem_univ _) hc

end Cert.Loss
-- ==== Proof.Agree.lean ====
/-
  The two sums over the cells agree: the reference's, cell by cell, and the kernel's, which sums what the cells give
  without a match and corrects the cell of every target that is the first to match it.
-/
module

public import proofs.«01_k».proof.Proof.Spec
public import proofs.«01_k».proof.Proof.Rounding
public import proofs.«01_k».proof.Proof.FirstMatch

@[expose] public section

set_option maxRecDepth 16384

noncomputable section

namespace Cert.Loss

open Idealize.ShloMosaic Cert.KernelIdeal.Body

theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm

theorem absf_coe (x : ℝ) : FloatOps.absf (F := Ideal) (φ := .f32) (x : EReal) = ((|x| : ℝ) : EReal) := by
  show max (x : EReal) (-(x : EReal)) = _
  rw [← EReal.coe_neg, max_coe]; rfl

/-- The kernel's test on a coordinate says that the coordinate rounds to its target. -/
theorem near_iff (p : ℝ) (h0 : 0 ≤ p) (h1 : p ≤ 511) (w : BitVec 32) (hw : w.toNat < 512) :
    Near (FloatOps.absf (F := Ideal) (φ := .f32) ((p : EReal) - (((w.toInt : ℝ)) : EReal)))
      (((w.toInt : ℝ) : EReal) * ((1/2 : ℝ) : EReal)) (((w.toInt : ℝ)) : EReal)
    ↔ Ideal.fptosi 32 (Ideal.liftRound Ideal.roundHalfEven (p : EReal)) = w := by
  rw [round_word_iff p h0 h1 w hw, ← EReal.coe_sub, absf_coe]
  unfold Near
  rw [floor_half_eq_iff, EReal.coe_lt_coe_iff, EReal.coe_eq_coe_iff]

/-- A count exceeds a half exactly when something is counted. -/
theorem half_lt_count {n : ℕ} (p : Fin n → Prop) [DecidablePred p] :
    ((1/2 : ℝ) : EReal) < ∑ u, (if p u then (1 : EReal) else 0) ↔ ∃ u, p u := by
  constructor
  · intro h
    by_contra hn
    rw [Finset.sum_eq_zero fun u _ => if_neg fun g => hn ⟨u, g⟩] at h
    have : ((1/2 : ℝ) : EReal) < ((0 : ℝ) : EReal) := h
    rw [EReal.coe_lt_coe_iff] at this
    norm_num at this
  · rintro ⟨u, hu⟩
    have h1 : (1 : EReal) ≤ ∑ u, (if p u then (1 : EReal) else 0) := by
      have := Finset.single_le_sum (f := fun u => if p u then (1 : EReal) else 0)
        (fun v _ => by show (0 : EReal) ≤ if p v then (1 : EReal) else 0; split <;> simp) (Finset.mem_univ u)
      simpa only [if_pos hu] using this
    refine lt_of_lt_of_le ?_ h1
    have : ((1/2 : ℝ) : EReal) < ((1 : ℝ) : EReal) := by rw [EReal.coe_lt_coe_iff]; norm_num
    exact this

section
variable (P : Policy) (B : Boxes) (Q : Probs) (hB : ∀ i, (B i).toNat < 512) (b : Fin 8) (a : Fin 3)

/-- The cell of a target. -/
def cell (t : Fin 16) : Fin 512 × Fin 512 := (⟨(B (ix3 b t 0)).toNat, hB _⟩, ⟨(B (ix3 b t 1)).toNat, hB _⟩)

/-- The target matches at its own cell. -/
def Own (t : Fin 16) : Prop := Match P B b a (cell B hB b t).1 (cell B hB b t).2 t

theorem toInt_small (w : BitVec 32) (h : w.toNat < 512) : w.toInt = (w.toNat : ℤ) := by
  rw [BitVec.toInt_eq_toNat_cond, if_pos (by omega)]

theorem match_iff (r q : Fin 512) (t : Fin 16) : Match P B b a r q t ↔ cell B hB b t = (r, q) ∧ Own P B hB b a t := by
  have w : ∀ (x : Fin 512) (v : BitVec 32) (hv : v.toNat < 512), BitVec.ofNat 32 x.val = v ↔ (⟨v.toNat, hv⟩ : Fin 512) = x := by
    intro x v hv
    rw [← BitVec.toNat_inj, BitVec.toNat_ofNat, Nat.mod_eq_of_lt (by omega), Fin.ext_iff]
    exact eq_comm
  constructor
  · intro h
    have e : cell B hB b t = (r, q) := Prod.ext ((w r _ _).1 h.1) ((w q _ _).1 h.2.1)
    refine ⟨e, ?_⟩
    unfold Own
    rw [e]; exact h
  · rintro ⟨e, h⟩
    unfold Own at h
    rw [e] at h; exact h

theorem pred_real (r : Fin 512) (s k : ℝ) (hs : 0 ≤ s) (hk : 0 ≤ k) :
    ∃ p : ℝ, 0 ≤ p ∧ p ≤ 511 ∧ min ((511 : ℝ) : EReal) (max 0 (((r.val : ℝ) : EReal) + (s : EReal) * (k : EReal))) = (p : EReal)
      ∧ min (((r.val : ℝ) : EReal) + (s : EReal) * (k : EReal)) ((511 : ℝ) : EReal) = (p : EReal) := by
  have h : (0 : ℝ) ≤ (r.val : ℝ) + s * k := by positivity
  refine ⟨min 511 ((r.val : ℝ) + s * k), le_min (by norm_num) h, min_le_left _ _, ?_, ?_⟩
  · rw [← EReal.coe_mul, ← EReal.coe_add, max_eq_right (EReal.coe_nonneg.2 h), min_coe]
  · rw [← EReal.coe_mul, ← EReal.coe_add, min_comm, min_coe]

theorem base_real (r q : Fin 512) : ∃ x : ℝ, missLoss P b a r q = (x : EReal) := by
  obtain ⟨s, _, _, hs⟩ := logistic_unit (P (ix4 b ⟨a.val * 3 + (2 : Fin 3).val, by omega⟩ r q))
  refine ⟨s * s, ?_⟩
  unfold missLoss sig
  rw [hs, EReal.coe_mul]

open Classical in
/-- The correction of the cell of target `t`. -/
def fix (t : Fin 16) : EReal :=
  if Own P B hB b a t ∧ ∀ u < t, ¬ (cell B hB b u = cell B hB b t ∧ Own P B hB b a u) then
    hitLoss P B Q b a (cell B hB b t).1 (cell B hB b t).2 t - missLoss P b a (cell B hB b t).1 (cell B hB b t).2
  else 0

/-- The sum over the cells of an anchor, with the matches pulled out. -/
theorem anchor_sum (val : Fin 512 → Fin 512 → EReal)
    (hhit : ∀ r q t, Match P B b a r q t → (∀ u < t, ¬ Match P B b a r q u) → val r q = hitLoss P B Q b a r q t)
    (hmiss : ∀ r q, (∀ t, ¬ Match P B b a r q t) → val r q = missLoss P b a r q) :
    ∑ r, ∑ q, val r q = (∑ r, ∑ q, missLoss P b a r q) + ∑ t, fix P B Q hB b a t := by
  classical
  choose base hbase using base_real P b a
  have key := sum_first (cell B hB b) (Own P B hB b a) (fun k : Fin 512 × Fin 512 => base k.1 k.2)
    (fun t => hitLoss P B Q b a (cell B hB b t).1 (cell B hB b t).2 t) (fun k => val k.1 k.2)
    (fun k t hk hM hf => by
      rw [hk]
      exact hhit k.1 k.2 t ((match_iff P B hB b a k.1 k.2 t).2 ⟨hk, hM⟩)
        fun u hu h => hf u hu ((match_iff P B hB b a k.1 k.2 u).1 h))
    (fun k h => (hmiss k.1 k.2 fun t g => h t ((match_iff P B hB b a k.1 k.2 t).1 g)).trans (hbase k.1 k.2))
  rw [Fintype.sum_prod_type, Fintype.sum_prod_type] at key
  refine key.trans (congrArg₂ (· + ·) ?_ ?_)
  · exact Finset.sum_congr rfl fun r _ => Finset.sum_congr rfl fun q _ => (hbase r q).symm
  · refine Finset.sum_congr rfl fun t _ => ?_
    unfold fix
    rw [hbase]

/-- The sum over the cells of an image. -/
theorem image_sum (val : Fin 3 → Fin 512 → Fin 512 → EReal)
    (hhit : ∀ a r q t, Match P B b a r q t → (∀ u < t, ¬ Match P B b a r q u) → val a r q = hitLoss P B Q b a r q t)
    (hmiss : ∀ a r q, (∀ t, ¬ Match P B b a r q t) → val a r q = missLoss P b a r q) :
    ∑ a, ∑ r, ∑ q, val a r q = (∑ a, ∑ r, ∑ q, missLoss P b a r q) + ∑ t, ∑ a, fix P B Q hB b a t := by
  rw [Finset.sum_congr rfl fun a _ => anchor_sum P B Q hB b a (val a) (hhit a) (hmiss a), Finset.sum_add_distrib, Finset.sum_comm (f := fun t a => fix P B Q hB b a t)]

end

section
variable (P : Policy) (B : Boxes) (Q : Probs) (hB : ∀ i, (B i).toNat < 512) (b : Fin 8)
  (s : FVec Ideal Cert.KernelIdeal.S16x9 .f32) (rc tg : Vec Ideal Cert.KernelIdeal.S1x16x9 .f32) (em : Vec Ideal Cert.KernelIdeal.S1x16x16 .f32)
  (hs : ∀ t l, s (ix2 t l) = Ideal.logistic (P (ix4 b l (cell B hB b t).1 (cell B hB b t).2)))
  (hr0 : ∀ t a, rc (ix3 0 t (lane a 0)) = num B b t 0) (hr1 : ∀ t a, rc (ix3 0 t (lane a 1)) = num B b t 1)
  (hr2 : ∀ t a, rc (ix3 0 t (lane a 2)) = (0 : EReal))
  (ht0 : ∀ t a, tg (ix3 0 t (lane a 0)) = num B b t 2) (ht1 : ∀ t a, tg (ix3 0 t (lane a 1)) = num B b t 3)
  (ht2 : ∀ t a, tg (ix3 0 t (lane a 2)) = Q (ix2 b t))
  (he : ∀ t u, em (ix3 0 t u) = if B (ix3 b t 0) = B (ix3 b u 0) ∧ B (ix3 b t 1) = B (ix3 b u 1) ∧ u < t then (1 : EReal) else 0)

include hs in
theorem s_eq (t : Fin 16) (a k : Fin 3) : s (ix2 t (lane a k)) = sig P b a (cell B hB b t).1 (cell B hB b t).2 k := by
  rw [hs]
  unfold sig
  have e : lane a k = ⟨a.val * 3 + k.val, by omega⟩ := Fin.ext (show 3 * a.val + k.val = a.val * 3 + k.val by omega)
  rw [e]

theorem num_cell0 (t : Fin 16) : num B b t 0 = ((((cell B hB b t).1.val : ℝ)) : EReal) := by
  unfold num cell
  rw [toInt_small _ (hB _), Int.cast_natCast]
theorem num_cell1 (t : Fin 16) : num B b t 1 = ((((cell B hB b t).2.val : ℝ)) : EReal) := by
  unfold num cell
  rw [toInt_small _ (hB _), Int.cast_natCast]

include hs hr0 ht0 in
theorem row_near (t : Fin 16) (a : Fin 3) : offRow s rc tg t a = predRow P b a (cell B hB b t).1 (cell B hB b t).2 - num B b t 2
    ∧ (Near (FloatOps.absf (F := Ideal) (φ := .f32) (offRow s rc tg t a)) (tg (ix3 0 t (lane a 0)) * ((1/2 : ℝ) : EReal)) (tg (ix3 0 t (lane a 0)))
      ↔ Ideal.fptosi 32 (Ideal.liftRound Ideal.roundHalfEven (predRow P b a (cell B hB b t).1 (cell B hB b t).2)) = B (ix3 b t 2)) := by
  obtain ⟨x, x0, _, hx⟩ := logistic_unit (P (ix4 b ⟨a.val * 3 + (0 : Fin 3).val, by omega⟩ (cell B hB b t).1 (cell B hB b t).2))
  have hx' : sig P b a (cell B hB b t).1 (cell B hB b t).2 0 = (x : EReal) := hx
  obtain ⟨p, p0, p1, e1, e2⟩ := pred_real (cell B hB b t).1 x 9 x0 (by norm_num)
  have f1 : predRow P b a (cell B hB b t).1 (cell B hB b t).2 = (p : EReal) := by unfold predRow; rw [hx', e1]
  have f2 : offRow s rc tg t a = (p : EReal) - num B b t 2 := by
    unfold offRow
    rw [hr0, ht0, s_eq P B hB b s hs, hx', num_cell0 B hB, e2]
  rw [f1, f2, ht0]
  exact ⟨rfl, near_iff p p0 p1 _ (hB _)⟩

include hs hr1 ht1 in
theorem col_near (t : Fin 16) (a : Fin 3) : offCol s rc tg t a = predCol P b a (cell B hB b t).1 (cell B hB b t).2 - num B b t 3
    ∧ (Near (FloatOps.absf (F := Ideal) (φ := .f32) (offCol s rc tg t a)) (tg (ix3 0 t (lane a 1)) * ((1/2 : ℝ) : EReal)) (tg (ix3 0 t (lane a 1)))
      ↔ Ideal.fptosi 32 (Ideal.liftRound Ideal.roundHalfEven (predCol P b a (cell B hB b t).1 (cell B hB b t).2)) = B (ix3 b t 3)) := by
  obtain ⟨x, x0, _, hx⟩ := logistic_unit (P (ix4 b ⟨a.val * 3 + (1 : Fin 3).val, by omega⟩ (cell B hB b t).1 (cell B hB b t).2))
  have hx' : sig P b a (cell B hB b t).1 (cell B hB b t).2 1 = (x : EReal) := hx
  obtain ⟨p, p0, p1, e1, e2⟩ := pred_real (cell B hB b t).2 x 16 x0 (by norm_num)
  have f1 : predCol P b a (cell B hB b t).1 (cell B hB b t).2 = (p : EReal) := by unfold predCol; rw [hx', e1]
  have f2 : offCol s rc tg t a = (p : EReal) - num B b t 3 := by
    unfold offCol
    rw [hr1, ht1, s_eq P B hB b s hs, hx', num_cell1 B hB, e2]
  rw [f1, f2, ht1]
  exact ⟨rfl, near_iff p p0 p1 _ (hB _)⟩

include hs hr2 ht2 in
theorem conf_off (t : Fin 16) (a : Fin 3) : offConf s rc tg t a = sig P b a (cell B hB b t).1 (cell B hB b t).2 2 - Q (ix2 b t) := by
  obtain ⟨x, _, x1, hx⟩ := logistic_unit (P (ix4 b ⟨a.val * 3 + (2 : Fin 3).val, by omega⟩ (cell B hB b t).1 (cell B hB b t).2))
  have hx' : sig P b a (cell B hB b t).1 (cell B hB b t).2 2 = (x : EReal) := hx
  unfold offConf
  rw [hr2, ht2, s_eq P B hB b s hs, hx', zero_add, min_coe, min_eq_left (by linarith)]

theorem ofNat_cell0 (t : Fin 16) : BitVec.ofNat 32 (cell B hB b t).1.val = B (ix3 b t 0) := by
  show BitVec.ofNat 32 (B (ix3 b t 0)).toNat = _
  simp
theorem ofNat_cell1 (t : Fin 16) : BitVec.ofNat 32 (cell B hB b t).2.val = B (ix3 b t 1) := by
  show BitVec.ofNat 32 (B (ix3 b t 1)).toNat = _
  simp

include hs hr0 hr1 ht0 ht1 in
theorem hit_iff (t : Fin 16) (a : Fin 3) : Hit s rc tg t a ↔ Own P B hB b a t := by
  unfold Hit Own Match
  rw [(row_near P B hB b s rc tg hs hr0 ht0 t a).2, (col_near P B hB b s rc tg hs hr1 ht1 t a).2]
  exact ⟨fun h => ⟨ofNat_cell0 B hB b t, ofNat_cell1 B hB b t, h.1, h.2⟩, fun h => ⟨h.2.2.1, h.2.2.2⟩⟩

theorem cell_eq (t u : Fin 16) : cell B hB b u = cell B hB b t ↔ B (ix3 b t 0) = B (ix3 b u 0) ∧ B (ix3 b t 1) = B (ix3 b u 1) := by
  unfold cell
  rw [Prod.mk.injEq, Fin.mk.injEq, Fin.mk.injEq, BitVec.toNat_inj, BitVec.toNat_inj]
  exact ⟨fun h => ⟨h.1.symm, h.2.symm⟩, fun h => ⟨h.1.symm, h.2.symm⟩⟩

include hs hr0 hr1 hr2 ht0 ht1 ht2 he in
/-- The kernel's correction is the sum of the corrections of the cells. -/
theorem correction_sum : correctionSum s rc tg em = ∑ t, ∑ a, fix P B Q hB b a t := by
  classical
  unfold correctionSum
  refine Finset.sum_congr rfl fun t _ => Finset.sum_congr rfl fun a _ => ?_
  have hit := hit_iff P B hB b s rc tg hs hr0 hr1 ht0 ht1
  have early : ((1/2 : ℝ) : EReal) < ∑ u : Fin 16, (if Hit s rc tg u a then em (ix3 0 t u) else 0)
      ↔ ∃ u, u < t ∧ cell B hB b u = cell B hB b t ∧ Own P B hB b a u := by
    rw [← half_lt_count]
    refine iff_of_eq (congrArg _ (Finset.sum_congr rfl fun u _ => ?_))
    rw [he]
    have ce := cell_eq B hB b t u
    by_cases h1 : Hit s rc tg u a
    · rw [if_pos h1]
      exact if_congr ⟨fun g => ⟨g.2.2, ce.2 ⟨g.1, g.2.1⟩, (hit u a).1 h1⟩, fun g => ⟨(ce.1 g.2.1).1, (ce.1 g.2.1).2, g.1⟩⟩ rfl rfl
    · rw [if_neg h1, if_neg fun g => h1 ((hit u a).2 g.2.2)]
  unfold fix
  by_cases h : Hit s rc tg t a
  · rw [if_pos h]
    by_cases k : ∃ u, u < t ∧ cell B hB b u = cell B hB b t ∧ Own P B hB b a u
    · rw [if_pos (early.2 k), zero_mul, if_neg]
      rintro ⟨_, g⟩
      obtain ⟨u, hu, hc⟩ := k
      exact g u hu hc
    · rw [if_neg (fun g => k (early.1 g)), one_mul, if_pos ⟨(hit t a).1 h, fun u hu g => k ⟨u, hu, g⟩⟩,
        (row_near P B hB b s rc tg hs hr0 ht0 t a).1, (col_near P B hB b s rc tg hs hr1 ht1 t a).1,
        conf_off P B Q hB b s rc tg hs hr2 ht2 t a, s_eq P B hB b s hs]
      unfold hitLoss missLoss
      rw [add_sub_assoc]
  · rw [if_neg h, if_neg fun g => h ((hit t a).2 g.1)]

end

end Cert.Loss

end
-- ==== Proof.IdealValue.lean ====
/-
  What the body leaves at a grid point: the misses of its image and the corrections of its sixteen targets.
-/
module

public import proofs.«01_k».proof.Proof.IdealBlocks
public import proofs.«01_k».proof.Proof.IdealFrame
public import proofs.«01_k».proof.Proof.Squash
public import proofs.«01_k».proof.Proof.Agree

@[expose] public section

set_option maxRecDepth 16384

noncomputable section

namespace Cert.KernelIdeal.Body

open Idealize.ShloMosaic Idealize.ShloMosaic.TcCoe Cert.KernelIdeal.Gen Cert.Loss

variable (m : (ℓ : Loc nD τ sig) → Buf (Elt Ideal) ℓ) (hO : Ok m) (hB : ∀ i, (boxes m i).toNat < 512)

/-- A channel of a target's cell, cut out of the target's tile. -/
theorem tile_cell (t : Fin grid0.N) (k : Fin 16) (l : Fin 9) (r q : BitVec 32) (x : Vec Ideal S1x9x8x128 .f32)
    (hr : r = boxes m (ix3 ⟨t.val, t.isLt⟩ k 0)) (hq : q = boxes m (ix3 ⟨t.val, t.isLt⟩ k 1)) (hx : IsTile m hB t k x) :
    cellOf r q x l = policy m (ix4 ⟨t.val, t.isLt⟩ l (cell (boxes m) hB ⟨t.val, t.isLt⟩ k).1 (cell (boxes m) hB ⟨t.val, t.isLt⟩ k).2) := by
  subst hr hq
  refine (hx l _ _).trans ?_
  have e : (V m 0 main_arg0 : S8x9x512x512.Idx → EReal) = policy m := by
    unfold V
    after_reads_simp
  rw [e]
  refine congrArg₂ (fun y z => policy m (ix4 _ l y z)) (Fin.ext ?_) (Fin.ext ?_)
  · exact Nat.div_add_mod' _ 8
  · exact Nat.div_add_mod' _ 128

/-- What the body cuts out of a target's tile at the words that it reads from the tables. -/
theorem word_cell (t : Fin grid0.N) (k : Fin 16) (l : Fin 9) (x : Vec Ideal S1x9x8x128 .f32) (hx : IsTile m hB t k x) :
    cellOf (rowAt 0 (tbl m 0) (k0_off1 (grid0.coords t) (BitVec.ofNat 32 k.val)) (k0_off1_inb (grid0.coords t) k))
      (colAt 0 (tbl m 1) (k0_off1 (grid0.coords t) (BitVec.ofNat 32 k.val)) (k0_off1_inb (grid0.coords t) k)) x l
      = policy m (ix4 ⟨t.val, t.isLt⟩ l (cell (boxes m) hB ⟨t.val, t.isLt⟩ k).1 (cell (boxes m) hB ⟨t.val, t.isLt⟩ k).2) :=
  tile_cell m hB t k l _ _ _ (row_word m t k _) (col_word m t k _) hx

set_option maxHeartbeats 4000000 in
/-- The squashed channels of the targets' cells. -/
theorem squashed_at (t : Fin grid0.N) (u : Fin 16) (l : Fin 9) :
    squashed 0 (grid0.coords t) (iblk m hO 0 1 t) (iblk m hO 0 2 t) (iblk m hO 0 3 t) (iblk m hO 0 4 t) (iblk m hO 0 5 t) (iblk m hO 0 6 t) (iblk m hO 0 7 t) (iblk m hO 0 8 t) (iblk m hO 0 9 t) (iblk m hO 0 10 t) (iblk m hO 0 11 t) (iblk m hO 0 12 t) (iblk m hO 0 13 t) (iblk m hO 0 14 t) (iblk m hO 0 15 t) (iblk m hO 0 16 t) (tbl m 0) (tbl m 1) (ix2 u l)
      = Ideal.logistic (policy m (ix4 ⟨t.val, t.isLt⟩ l (cell (boxes m) hB ⟨t.val, t.isLt⟩ u).1 (cell (boxes m) hB ⟨t.val, t.isLt⟩ u).2)) := by
  unfold squashed
  refine (stacked _ _ _ _ _ _ _ _ _ _ _ _ _ _ _ _ _ _ _ _ u l).trans ?_
  fin_cases u
  · exact congrArg Ideal.logistic ((extract_at _ _ _ l).trans (word_cell m hB t 0 l _ (tile_blk0 m hO hB t)))
  · exact congrArg Ideal.logistic ((extract_at _ _ _ l).trans (word_cell m hB t 1 l _ (tile_blk1 m hO hB t)))
  · exact congrArg Ideal.logistic ((extract_at _ _ _ l).trans (word_cell m hB t 2 l _ (tile_blk2 m hO hB t)))
  · exact congrArg Ideal.logistic ((extract_at _ _ _ l).trans (word_cell m hB t 3 l _ (tile_blk3 m hO hB t)))
  · exact congrArg Ideal.logistic ((extract_at _ _ _ l).trans (word_cell m hB t 4 l _ (tile_blk4 m hO hB t)))
  · exact congrArg Ideal.logistic ((extract_at _ _ _ l).trans (word_cell m hB t 5 l _ (tile_blk5 m hO hB t)))
  · exact congrArg Ideal.logistic ((extract_at _ _ _ l).trans (word_cell m hB t 6 l _ (tile_blk6 m hO hB t)))
  · exact congrArg Ideal.logistic ((extract_at _ _ _ l).trans (word_cell m hB t 7 l _ (tile_blk7 m hO hB t)))
  · exact congrArg Ideal.logistic ((extract_at _ _ _ l).trans (word_cell m hB t 8 l _ (tile_blk8 m hO hB t)))
  · exact congrArg Ideal.logistic ((extract_at _ _ _ l).trans (word_cell m hB t 9 l _ (tile_blk9 m hO hB t)))
  · exact congrArg Ideal.logistic ((extract_at _ _ _ l).trans (word_cell m hB t 10 l _ (tile_blk10 m hO hB t)))
  · exact congrArg Ideal.logistic ((extract_at _ _ _ l).trans (word_cell m hB t 11 l _ (tile_blk11 m hO hB t)))
  · exact congrArg Ideal.logistic ((extract_at _ _ _ l).trans (word_cell m hB t 12 l _ (tile_blk12 m hO hB t)))
  · exact congrArg Ideal.logistic ((extract_at _ _ _ l).trans (word_cell m hB t 13 l _ (tile_blk13 m hO hB t)))
  · exact congrArg Ideal.logistic (word_cell m hB t 14 l _ (tile_blk14 m hO hB t))
  · exact congrArg Ideal.logistic (word_cell m hB t 15 l _ (tile_blk15 m hO hB t))

/-- The image's loss as the body computes it. -/
theorem outAt_eq (t : Fin grid0.N) (y : S1x1x1.Idx) : outAt m hO 0 t y
    = (∑ a, ∑ r, ∑ q, missLoss (policy m) ⟨t.val, t.isLt⟩ a r q)
      + ∑ u, ∑ a, fix (policy m) (boxes m) (probs m) hB ⟨t.val, t.isLt⟩ a u := by
  unfold outAt
  refine (congrFun (block_eq ..) y).trans ?_
  pointwise [k0_pay1]
  refine congrArg₂ (fun x z : EReal => x + z) ?_ ?_
  · refine (plane_sum _).trans ?_
    refine Finset.sum_congr rfl fun a _ => Finset.sum_congr rfl fun r _ => Finset.sum_congr rfl fun q _ => ?_
    rw [conf_blk m hO t a r q, plane_at]
    rfl
  · unfold correction
    refine (correction_eq _ _ _ _).trans ?_
    refine correction_sum (policy m) (boxes m) (probs m) hB ⟨t.val, t.isLt⟩ _ _ _ _ (fun u l => squashed_at m hO hB t u l) ?_ ?_ ?_ ?_ ?_ ?_ ?_
    · intro u a; exact (own_blk m hO t u _).trans (own0_at m _ u _ (by show (3 * a.val + 0) % 3 = 0; omega))
    · intro u a; exact (own_blk m hO t u _).trans (own1_at m _ u _ (by show (3 * a.val + 1) % 3 = 1; omega))
    · intro u a; exact (own_blk m hO t u _).trans (own2_at m _ u _ (by show (3 * a.val + 2) % 3 = 2; omega))
    · intro u a; exact (tgt_blk m hO t u _).trans (tgt0_at m _ u _ (by show (3 * a.val + 0) % 3 = 0; omega))
    · intro u a; exact (tgt_blk m hO t u _).trans (tgt1_at m _ u _ (by show (3 * a.val + 1) % 3 = 1; omega))
    · intro u a; exact (tgt_blk m hO t u _).trans (tgt2_at m _ u _ (by show (3 * a.val + 2) % 3 = 2; omega))
    · intro u v; exact (same_blk m hO t u v).trans (same_at m _ u v)

end Cert.KernelIdeal.Body

end
-- ==== Proof.IdealOut.lean ====
/-
  The kernel's result: the losses of the eight images summed, and divided by the number of cells.
-/
module

public import proofs.«01_k».proof.Proof.IdealValue

@[expose] public section

set_option maxRecDepth 16384

noncomputable section

namespace Cert.KernelIdeal.Body

open Idealize.ShloMosaic Idealize.ShloMosaic.TcCoe Cert.KernelIdeal.Gen Cert.Loss

variable (m : (ℓ : Loc nD τ sig) → Buf (Elt Ideal) ℓ) (hO : Ok m) (hB : ∀ i, (boxes m i).toNat < 512)

/-- The loss of an image. -/
def imageLoss (b : Fin 8) : EReal :=
  (∑ a, ∑ r, ∑ q, missLoss (policy m) b a r q) + ∑ u, ∑ a, fix (policy m) (boxes m) (probs m) hB b a u

/-- Every image's loss is written back. -/
theorem written : ((cfgM m hO).win 20).Covers := by
  refine ⟨fun a => ?_, fun β => ?_⟩
  · fin_cases a <;> exact Nat.one_pos
  · have h0 : (β (0 : Fin 3)).val < 8 := lt_of_lt_of_eq (β (0 : Fin 3)).isLt (show (8 + 1 - 1) / 1 = 8 from rfl)
    have h1 : (β (1 : Fin 3)).val < 1 := lt_of_lt_of_eq (β (1 : Fin 3)).isLt (show (1 + 1 - 1) / 1 = 1 from rfl)
    have h2 : (β (2 : Fin 3)).val < 1 := lt_of_lt_of_eq (β (2 : Fin 3)).isLt (show (1 + 1 - 1) / 1 = 1 from rfl)
    refine ⟨⟨(β (0 : Fin 3)).val, h0⟩, flush0_20 _ _, fun a => ?_⟩
    fin_cases a
    · exact ⟨index_at ⟨(β (0 : Fin 3)).val, h0⟩, .inl rfl⟩
    · exact ⟨(Nat.lt_one_iff.1 h1).symm, .inl rfl⟩
    · exact ⟨(Nat.lt_one_iff.1 h2).symm, .inl rfl⟩

/-- The array of the images' losses, as the pipeline leaves it. -/
theorem losses_at : (data m hO 0 0).arrAt 20 (cfgM m hO).N = fun i : S8x1x1.Idx => imageLoss m hB (i 0) := by
  refine (data m hO 0 0).arrAt_eq_of_covers 20 _ (written m hO) fun t hf y => ?_
  blk_simp
  rw [left20]
  refine (outAt_eq m hO hB t y).trans ?_
  refine congrArg (imageLoss m hB) (Fin.ext ?_)
  have h0 : ((y (0 : Fin 3) : Fin 1) : Nat) < 1 := (y (0 : Fin 3) : Fin 1).isLt
  have := index_at t
  show t.val = (BitVec.ofNat 32 (grid0.coords t 0).val).toNat * 1 + 1 * ((y (0 : Fin 3) : Fin 1) : Nat)
  omega

/-- The result. -/
theorem loss_at : (Pipeline.afterTail pcfgs (fun _ => adm m hO) (data m hO) 0 (V0 m) [hostOps1] 0 main_v54 : S_.Idx → EReal) Idealize.ShloMosaic.ix0
    = Ideal.div (∑ b : Fin 8, imageLoss m hB b) (Ideal.ofBits .f32 0x4AC00000#32) := by
  unfold Pipeline.afterTail
  after_reads_at
  refine congrArg (fun z => Ideal.div z _) ?_
  refine Finset.sum_congr rfl fun b _ => ?_
  rw [Fin.sum_univ_one, Fin.sum_univ_one]
  have e := (data m hO 0 0).withArrays_arrAt sharedIn0 (V0 m 0) (data_array m hO 0) 20
  exact (congrFun (e.trans (losses_at m hO hB)) (ix3 b 0 0)).trans rfl

end Cert.KernelIdeal.Body

end
-- ==== Proof.RefOps.lean ====
/-
  The reference as a list of operations.
-/
module

public import proofs.«01_k».proof.Proof.Gen.ReferenceIdeal
public import Idealize.ShloMosaic.Lib.Claim
public import Idealize.ShloMosaic.Lib.Pointwise
public import Idealize.ShloMosaic.Lib.StableHlo.ReadAt

@[expose] public section

set_option maxRecDepth 16384

noncomputable section

namespace Cert.ReferenceIdeal

open Idealize.ShloMosaic Idealize.SL.Sem Idealize.ShloMosaic.TcCoe

attribute [local instance] Gen.facts

set_option maxHeartbeats 4000000 in
/-- The operations, with the statement that the program is their line. -/
def line : { ops : List (HloOp τ sig (Elt Ideal)) // ∀ d, StableHlo.IsSeq (main (F := Ideal) d) ops } :=
  by apply Subtype.mk; hlo_seq

end Cert.ReferenceIdeal

end
-- ==== Proof.RefPick.lean ====
/-
  The reference's arg-max along the targets and its gather, at an index.
-/
module

public import proofs.«01_k».proof.Proof.RefOps

@[expose] public section

set_option maxRecDepth 16384

noncomputable section

namespace Cert.ReferenceIdeal

open Idealize.ShloMosaic Idealize.ShloMosaic.TcCoe

attribute [local instance] Gen.facts

theorem slt_small (t u : Fin 16) : IntOp.cmpi .slt (BitVec.ofNat 32 t.val) (BitVec.ofNat 32 u.val) = BitVec.ofBool (decide (t < u)) := by
  revert t u; decide

theorem red_10 (v w : BitVec 32) : reducer_argmax_i1_i32 (1#1, v) (0#1, w) = (1#1, v) := by
  have e : IntOp.cmpi .ugt (1#1) (0#1) = 1#1 := by decide
  have f : IntOp.cmpi .ne (1#1) (1#1) = 0#1 := by decide
  have g : IntOp.cmpi .eq (1#1) (0#1) = 0#1 := by decide
  simp only [reducer_argmax_i1_i32, e, f, g]
  simp [IntOp.ori, IntOp.andi, Scalar.select]
theorem red_01 (v w : BitVec 32) : reducer_argmax_i1_i32 (0#1, v) (1#1, w) = (1#1, w) := by
  have e : IntOp.cmpi .ugt (0#1) (1#1) = 0#1 := by decide
  have f : IntOp.cmpi .ne (0#1) (0#1) = 0#1 := by decide
  have g : IntOp.cmpi .eq (0#1) (1#1) = 0#1 := by decide
  simp only [reducer_argmax_i1_i32, e, f, g]
  simp [IntOp.ori, IntOp.andi, Scalar.select]
theorem red_00 (v w : BitVec 32) : (reducer_argmax_i1_i32 (0#1, v) (0#1, w)).1 = 0#1 := by
  have e : IntOp.cmpi .ugt (0#1) (0#1) = 0#1 := by decide
  have f : IntOp.cmpi .ne (0#1) (0#1) = 0#1 := by decide
  simp only [reducer_argmax_i1_i32, e, f]
  simp [IntOp.ori, Scalar.select]
theorem red_11 (t u : Fin 16) : reducer_argmax_i1_i32 (1#1, BitVec.ofNat 32 t.val) (1#1, BitVec.ofNat 32 u.val)
    = (1#1, if t < u then BitVec.ofNat 32 t.val else BitVec.ofNat 32 u.val) := by
  have e : IntOp.cmpi .ugt (1#1) (1#1) = 0#1 := by decide
  have f : IntOp.cmpi .ne (1#1) (1#1) = 0#1 := by decide
  have g : IntOp.cmpi .eq (1#1) (1#1) = 1#1 := by decide
  simp only [reducer_argmax_i1_i32, e, f, g, slt_small]
  by_cases h : t < u <;> simp [IntOp.ori, IntOp.andi, Scalar.select, h]

/-- What the fold of the arg-max holds after a list: the first of the targets that match. -/
def First {ι : Type} (L : List ι) (x : ι → BitVec 1) (p : ι → Fin 16) (s : BitVec 1 × BitVec 32) : Prop :=
  (s.1 = 1#1 ∧ ∃ t ∈ L, x t = 1#1 ∧ s.2 = BitVec.ofNat 32 (p t).val ∧ ∀ u ∈ L, x u = 1#1 → p t ≤ p u)
    ∨ (s.1 = 0#1 ∧ ∀ u ∈ L, x u = 0#1)

theorem first_step {ι : Type} (L : List ι) (x : ι → BitVec 1) (p : ι → Fin 16) (s : BitVec 1 × BitVec 32) (i : ι)
    (h : First L x p s) : First (L ++ [i]) x p (reducer_argmax_i1_i32 s (x i, BitVec.ofNat 32 (p i).val)) := by
  obtain ⟨s1, s2⟩ := s
  rcases h with ⟨h1, t, ht, hx, h2, hm⟩ | ⟨h1, hm⟩
  · simp only at h1 h2
    subst h1; subst h2
    rcases BitVec.eq_zero_or_eq_one (x i) with e | e
    · refine Or.inl ⟨?_, t, by simp [ht], hx, ?_, ?_⟩
      · rw [e, red_10]
      · rw [e, red_10]
      · intro u hu hxu
        rcases List.mem_append.1 hu with g | g
        · exact hm u g hxu
        · rw [List.mem_singleton.1 g, e] at hxu; exact absurd hxu (by decide)
    · by_cases g : p t < p i
      · refine Or.inl ⟨?_, t, by simp [ht], hx, ?_, ?_⟩
        · rw [e, red_11]
        · rw [e, red_11, if_pos g]
        · intro u hu hxu
          rcases List.mem_append.1 hu with k | k
          · exact hm u k hxu
          · rw [List.mem_singleton.1 k]; exact g.le
      · refine Or.inl ⟨?_, i, by simp, e, ?_, ?_⟩
        · rw [e, red_11]
        · rw [e, red_11, if_neg g]
        · intro u hu hxu
          rcases List.mem_append.1 hu with k | k
          · exact (not_lt.1 g).trans (hm u k hxu)
          · rw [List.mem_singleton.1 k]
  · simp only at h1
    subst h1
    rcases BitVec.eq_zero_or_eq_one (x i) with e | e
    · refine Or.inr ⟨?_, ?_⟩
      · rw [e, red_00]
      · intro u hu
        rcases List.mem_append.1 hu with k | k
        · exact hm u k
        · rw [List.mem_singleton.1 k, e]
    · refine Or.inl ⟨?_, i, by simp, e, ?_, ?_⟩
      · rw [e, red_01]
      · rw [e, red_01]
      · intro u hu hxu
        rcases List.mem_append.1 hu with k | k
        · rw [hm u k] at hxu; exact absurd hxu (by decide)
        · rw [List.mem_singleton.1 k]

theorem first_fold {ι : Type} (L : List ι) (x : ι → BitVec 1) (p : ι → Fin 16) :
    First L x p (L.foldl (fun s i => reducer_argmax_i1_i32 s (x i, BitVec.ofNat 32 (p i).val)) (0#1, 0#32)) := by
  induction L using List.reverseRecOn with
  | nil => exact Or.inr ⟨rfl, fun _ h => absurd h List.not_mem_nil⟩
  | append_singleton L i ih => rw [List.foldl_append]; exact first_step L x p _ i ih

theorem argmax_at (M : S8x3x512x512x16.Idx → BitVec 1) (h hu) (b : Fin 8) (a : Fin 3) (r q : Fin 512) (t : Fin 16)
    (ht : M (ix5 b a r q t) = 1#1) (hm : ∀ u < t, M (ix5 b a r q u) ≠ 1#1) :
    (Host.reduce2 (t := S8x3x512x512) (u := S_) (axes := [4]) reducer_argmax_i1_i32 M (iotaInDim S8x3x512x512x16 32 4) (constantI S_ 1 0#1) (constantI S_ 32 0#32) h hu
      (ix4 b a r q)).2 = BitVec.ofNat 32 t.val := by
  have key := first_fold ((List.finRange S8x3x512x512x16.numel).filter fun n => h.drop (S8x3x512x512x16.rowMajor.symm n) = ix4 b a r q)
    (fun n => M (S8x3x512x512x16.rowMajor.symm n)) (fun n => (S8x3x512x512x16.rowMajor.symm n) 4)
  have mem : ∀ n, n ∈ ((List.finRange S8x3x512x512x16.numel).filter fun n => h.drop (S8x3x512x512x16.rowMajor.symm n) = ix4 b a r q)
      ↔ ∃ k : Fin 16, ix5 b a r q k = S8x3x512x512x16.rowMajor.symm n := by
    intro n
    rw [List.mem_filter, decide_eq_true_eq]
    exact ⟨fun g => (h.fiber_r5_a4 _ _).1 g.2, fun g => ⟨List.mem_finRange n, (h.fiber_r5_a4 _ _).2 g⟩⟩
  have tm : S8x3x512x512x16.rowMajor (ix5 b a r q t) ∈ ((List.finRange S8x3x512x512x16.numel).filter fun n => h.drop (S8x3x512x512x16.rowMajor.symm n) = ix4 b a r q) :=
    (mem _).2 ⟨t, (Equiv.symm_apply_apply _ _).symm⟩
  unfold Host.reduce2
  generalize hs : List.foldl _ _ _ = s at key
  refine (congrArg Prod.snd hs : _ = s.2).trans ?_
  rcases key with ⟨_, n, hn, hx, h2, hmin⟩ | ⟨_, hz⟩
  · obtain ⟨k, hk⟩ := (mem n).1 hn
    refine h2.trans ?_
    have h1 := hmin _ tm (by simp only [Equiv.symm_apply_apply]; exact ht)
    simp only [Equiv.symm_apply_apply, ← hk] at h1 hx ⊢
    have e : k = t := le_antisymm h1 (not_lt.1 fun g => hm k g hx)
    rw [← e]; rfl
  · have := hz _ tm
    simp only [Equiv.symm_apply_apply, ht] at this
    exact absurd this (by decide)

theorem gather_at {α : Type} (x : S8x16.Idx → α) (idx : IVec S8x3x512x512x1 32) (b : Fin 8) (a : Fin 3) (r q : Fin 512) (t : Fin 16)
    (h : idx (ix5 b a r q 0) = BitVec.ofNat 32 t.val) :
    Host.gather gather_S8x16_S8x3x512x512x1_S8x3x512x512_n_1_0_0_1_4_11 x idx (ix4 b a r q) = x (ix2 b t) := by
  unfold Host.gather
  congr 1
  funext c
  refine Fin.ext ?_
  match c with
  | ⟨0, _⟩ =>
    show GatherDims.start gather_S8x16_S8x3x512x512x1_S8x3x512x512_n_1_0_0_1_4_11 (ix4 b a r q) idx 0 + b.val + 0 = b.val
    unfold GatherDims.start
    rw [dif_neg (show ¬ (0 : Fin 2) ∈ gather_S8x16_S8x3x512x512x1_S8x3x512x512_n_1_0_0_1_4_11.startIndexMap by decide)]
    omega
  | ⟨1, _⟩ =>
    show GatherDims.start gather_S8x16_S8x3x512x512x1_S8x3x512x512_n_1_0_0_1_4_11 (ix4 b a r q) idx 1 + 0 + 0 = t.val
    unfold GatherDims.start
    rw [dif_pos (show (1 : Fin 2) ∈ gather_S8x16_S8x3x512x512x1_S8x3x512x512_n_1_0_0_1_4_11.startIndexMap from List.mem_singleton.mpr rfl)]
    have hsi : gather_S8x16_S8x3x512x512x1_S8x3x512x512_n_1_0_0_1_4_11.siIdx (ix4 b a r q)
        ⟨List.idxOf (1 : Fin 2) gather_S8x16_S8x3x512x512x1_S8x3x512x512_n_1_0_0_1_4_11.startIndexMap,
        List.idxOf_lt_length_iff.2 (List.mem_singleton.mpr rfl)⟩ = ix5 b a r q 0 := by
      funext e; refine Fin.ext ?_
      match e with
      | ⟨0, _⟩ => rfl
      | ⟨1, _⟩ => rfl
      | ⟨2, _⟩ => rfl
      | ⟨3, _⟩ => rfl
      | ⟨4, _⟩ => rfl
    rw [hsi, h]
    clear h
    revert t; decide

end Cert.ReferenceIdeal

end
-- ==== Proof.RefValue.lean ====
/-
  The reference's loss at a cell, and its result.
-/
module

public import proofs.«01_k».proof.Proof.RefPick
public import proofs.«01_k».proof.Proof.Spec
public import Idealize.ShloMosaic.Lib.Routing.OpsOrder

@[expose] public section

set_option maxRecDepth 16384

noncomputable section

namespace Cert.ReferenceIdeal

open Idealize.ShloMosaic Idealize.ShloMosaic.TcCoe Cert.Loss

attribute [local instance] Gen.facts

variable (m : (ℓ : Loc nD τ sig) → Buf (Elt Ideal) ℓ)

/-- What a buffer holds after the run. -/
def R (b : Ref sig .tc) : (b.ty.shape).Idx → Elt Ideal b.ty.elt := StableHlo.after line.1 (StableHlo.launchContents m 0) (Proc.devRef .tc b)

/-- The arguments as launched. -/
abbrev pol : Policy := StableHlo.launchContents m 0 (Proc.devRef .tc main_arg0)
@[inherit_doc pol] abbrev box : Boxes := StableHlo.launchContents m 0 (Proc.devRef .tc main_arg1)
@[inherit_doc pol] abbrev prb : Probs := StableHlo.launchContents m 0 (Proc.devRef .tc main_arg2)

theorem place (r : Fin 512) : (FloatOps.sitofp (F := Ideal) .f32 (BitVec.ofNat 32 r.val) : EReal) = ((r.val : ℝ) : EReal) := by
  show (((BitVec.ofNat 32 r.val).toInt : ℝ) : EReal) = _
  have e : (BitVec.ofNat 32 r.val).toInt = (r.val : ℤ) := by
    rw [BitVec.toInt_eq_toNat_cond, BitVec.toNat_ofNat, Nat.mod_eq_of_lt (by omega), if_pos (by omega)]
  rw [e, Int.cast_natCast]

theorem row_form (P : Policy) (b : Fin 8) (a : Fin 3) (r q : Fin 512) (h) :
    min (id (constant (F := Ideal) S_ FTy.f32 1140817920#32) ix0) (max (id (constant (F := Ideal) S_ FTy.f32 0#32) ix0)
      ((FloatOps.sitofp (F := Ideal) FTy.f32 (BitVec.ofNat 32 r.val) : EReal)
        + Ideal.div 1 (1 + Ideal.exp (-P (ix4 b ⟨a.val * 3, h⟩ r q))) * Ideal.ofBits FTy.f32 1091567616#32))
      = predRow P b a r q := by
  rw [place, nine_word]
  show min (Ideal.ofBits .f32 0x43FF8000#32) (max (Ideal.ofBits .f32 0x00000000#32) _) = _
  rw [edge_word, zero_word]
  rfl

theorem col_form (P : Policy) (b : Fin 8) (a : Fin 3) (r q : Fin 512) (h) :
    min (id (constant (F := Ideal) S_ FTy.f32 1140817920#32) ix0) (max (id (constant (F := Ideal) S_ FTy.f32 0#32) ix0)
      ((FloatOps.sitofp (F := Ideal) FTy.f32 (BitVec.ofNat 32 q.val) : EReal)
        + Ideal.div 1 (1 + Ideal.exp (-P (ix4 b ⟨a.val * 3 + 1, h⟩ r q))) * Ideal.ofBits FTy.f32 1098907648#32))
      = predCol P b a r q := by
  rw [place, sixteen_word]
  show min (Ideal.ofBits .f32 0x43FF8000#32) (max (Ideal.ofBits .f32 0x00000000#32) _) = _
  rw [edge_word, zero_word]
  rfl

theorem four_bits (p q r s : BitVec 1) : IntOp.andi (IntOp.andi (IntOp.andi p q) r) s = 1#1 ↔ p = 1#1 ∧ q = 1#1 ∧ r = 1#1 ∧ s = 1#1 := by
  revert p q r s; decide

/-- The match bit at an index. -/
theorem bit_form (P : Policy) (B : Boxes) (b : Fin 8) (a : Fin 3) (r q : Fin 512) (t : Fin 16) (x y : EReal)
    (hx : x = predRow P b a r q) (hy : y = predCol P b a r q) :
    IntOp.andi (IntOp.andi (IntOp.andi (IntOp.cmpi .eq (BitVec.ofNat 32 r.val) (B (ix3 b t 0)))
      (IntOp.cmpi .eq (BitVec.ofNat 32 q.val) (B (ix3 b t 1))))
      (IntOp.cmpi .eq (FloatOps.fptosi (F := Ideal) (φ := .f32) 32 (Ideal.liftRound Ideal.roundHalfEven x)) (B (ix3 b t 2))))
      (IntOp.cmpi .eq (FloatOps.fptosi (F := Ideal) (φ := .f32) 32 (Ideal.liftRound Ideal.roundHalfEven y)) (B (ix3 b t 3))) = 1#1
    ↔ Match P B b a r q t := by
  subst hx; subst hy
  rw [four_bits, IntOp.cmpi_eq, IntOp.cmpi_eq, IntOp.cmpi_eq, IntOp.cmpi_eq]
  exact Iff.rfl

set_option maxHeartbeats 4000000 in
theorem v76_at (b : Fin 8) (a : Fin 3) (r q : Fin 512) : (R m main_v76 : S8x3x512x512.Idx → BitVec 1) (ix4 b a r q) = 1#1
    ↔ ∃ t, Match (pol m) (box m) b a r q t := by
  unfold R line
  after_reads_at
  rw [Routing.fold_ori]
  simp only [Finset.mem_univ, true_and]
  exact exists_congr fun t => bit_form (pol m) (box m) b a r q t _ _ (row_form _ _ _ _ _ _) (col_form _ _ _ _ _ _)

theorem wrap (t : Fin 16) : Scalar.select (IntOp.cmpi .slt (BitVec.ofNat 32 t.val) 0#32) (IntOp.addi (BitVec.ofNat 32 t.val) 16#32) (BitVec.ofNat 32 t.val)
    = BitVec.ofNat 32 t.val := by
  revert t; decide

theorem take_hit {c : BitVec 1} {x x' z : EReal} (hc : c = 1#1) (hx : x = x') : Scalar.select c x z = x' := by
  rw [hc, hx]; rfl

theorem take_miss {c : BitVec 1} {x z z' : EReal} (hc : ¬ c = 1#1) (hz : z = z') : Scalar.select c x z = z' := by
  rw [(BitVec.eq_zero_or_eq_one c).resolve_right hc, hz]; rfl

theorem loss_form {x x' y y' g g' h h' s s' k k' : EReal} (hx : x = x') (hg : g = g') (hy : y = y') (hh : h = h') (hs : s = s') (hk : k = k') :
    (FloatOps.absf (F := Ideal) (φ := .f32) (x - g) + FloatOps.absf (F := Ideal) (φ := .f32) (y - h)) + (s - k) * (s - k)
    = (FloatOps.absf (F := Ideal) (φ := .f32) (x' - g') + FloatOps.absf (F := Ideal) (φ := .f32) (y' - h')) + (s' - k') * (s' - k') := by
  rw [hx, hg, hy, hh, hs, hk]

set_option maxHeartbeats 4000000 in
/-- A cell that target `t` matches first. -/
theorem cell_hit (b : Fin 8) (a : Fin 3) (r q : Fin 512) (t : Fin 16) (ht : Match (pol m) (box m) b a r q t)
    (hm : ∀ u < t, ¬ Match (pol m) (box m) b a r q u) :
    (R m main_v116 : S8x3x512x512.Idx → EReal) (ix4 b a r q) = hitLoss (pol m) (box m) (prb m) b a r q t := by
  have hc := (v76_at m b a r q).2 ⟨t, ht⟩
  unfold R line at hc ⊢
  revert hc
  after_reads_at
  intro hc
  refine take_hit hc (loss_form (row_form _ _ _ _ _ _) ?_ (col_form _ _ _ _ _ _) ?_ rfl ?_)
  · refine (gather_at _ _ b a r q t ?_).trans ?_
    · pointwise
      rw [argmax_at _ _ _ b a r q t ?_ ?_]
      · exact wrap t
      · pointwise
        exact (bit_form (pol m) (box m) b a r q t _ _ (row_form _ _ _ _ _ _) (col_form _ _ _ _ _ _)).2 ht
      · intro u hu
        pointwise
        exact fun h => hm u hu ((bit_form (pol m) (box m) b a r q u _ _ (row_form _ _ _ _ _ _) (col_form _ _ _ _ _ _)).1 h)
    · rfl
  · refine (gather_at _ _ b a r q t ?_).trans ?_
    · pointwise
      rw [argmax_at _ _ _ b a r q t ?_ ?_]
      · exact wrap t
      · pointwise
        exact (bit_form (pol m) (box m) b a r q t _ _ (row_form _ _ _ _ _ _) (col_form _ _ _ _ _ _)).2 ht
      · intro u hu
        pointwise
        exact fun h => hm u hu ((bit_form (pol m) (box m) b a r q u _ _ (row_form _ _ _ _ _ _) (col_form _ _ _ _ _ _)).1 h)
    · rfl
  · refine (gather_at _ _ b a r q t ?_).trans ?_
    · pointwise
      rw [argmax_at _ _ _ b a r q t ?_ ?_]
      · exact wrap t
      · pointwise
        exact (bit_form (pol m) (box m) b a r q t _ _ (row_form _ _ _ _ _ _) (col_form _ _ _ _ _ _)).2 ht
      · intro u hu
        pointwise
        exact fun h => hm u hu ((bit_form (pol m) (box m) b a r q u _ _ (row_form _ _ _ _ _ _) (col_form _ _ _ _ _ _)).1 h)
    · rfl

set_option maxHeartbeats 4000000 in
/-- A cell that no target matches. -/
theorem cell_miss (b : Fin 8) (a : Fin 3) (r q : Fin 512) (hm : ∀ t, ¬ Match (pol m) (box m) b a r q t) :
    (R m main_v116 : S8x3x512x512.Idx → EReal) (ix4 b a r q) = missLoss (pol m) b a r q := by
  have hc : ¬ _ := fun h => absurd ((v76_at m b a r q).1 h) (fun ⟨t, ht⟩ => hm t ht)
  unfold R line at hc ⊢
  revert hc
  after_reads_at
  intro hc
  refine take_miss hc ?_
  rfl

set_option maxHeartbeats 4000000 in
theorem result_line : (R m main_v118 : S_.Idx → EReal) = Host.divf (F := Ideal) (φ := .f32) (Host.reduceAdd (F := Ideal) (φ := .f32) (axes := [0, 1, 2, 3]) (t := S_) (u := S_) (R m main_v116 : S8x3x512x512.Idx → EReal) (constant S_ .f32 0x00000000#32) Facts₀.reducesTo_S8x3x512x512_S_d0_1_2_3 Facts₀.h_S_)
    (constant S_ .f32 0x4AC00000#32) := by
  unfold R line
  after_reads_simp

theorem result_at : (R m main_v118 : S_.Idx → EReal) ix0
    = Ideal.div (∑ b : Fin 8, ∑ a : Fin 3, ∑ r : Fin 512, ∑ q : Fin 512, (R m main_v116 : S8x3x512x512.Idx → EReal) (ix4 b a r q))
      (Ideal.ofBits .f32 0x4AC00000#32) := by
  rw [result_line]
  pointwise
  refine congrArg (fun z => Ideal.div z (Ideal.ofBits .f32 0x4AC00000#32)) ?_
  unfold Ideal.hostReduceAdd
  have sub : Subsingleton S_.Idx := ⟨fun p q => funext fun a => a.elim0⟩
  rw [Finset.filter_true_of_mem (fun i _ => Subsingleton.elim _ _), zero_add]
  exact sum_idx4 _

end Cert.ReferenceIdeal

end
-- ==== Proof.Algebraic.lean ====
/-
  The two losses are equal: each image's cells that no target matches count the same, and so does each cell at the
  target that matches it first.
-/
module

public import proofs.«01_k».proof.Defs
public import proofs.«01_k».proof.Proof.IdealOut
public import proofs.«01_k».proof.Proof.IdealTables
public import proofs.«01_k».proof.Proof.RefFrame
public import proofs.«01_k».proof.Proof.RefValue
public import proofs.«01_k».proof.Proof.Words

@[expose] public section

set_option maxRecDepth 16384

noncomputable section

namespace Cert.Loss

open Idealize.ShloMosaic Idealize.ShloMosaic.TcCoe Idealize.SL.Sem

attribute [local instance] Cert.Pre_coords.Gen.facts

/-- The reference's loss, where its arguments are the kernel's. -/
theorem result_eq (m' : (ℓ : Loc Cert.ReferenceIdeal.nD Cert.ReferenceIdeal.τ Cert.ReferenceIdeal.sig) → Buf (Elt Ideal) ℓ)
    (P : Policy) (B : Boxes) (Q : Probs) (hP : Cert.ReferenceIdeal.pol m' = P) (hB' : Cert.ReferenceIdeal.box m' = B)
    (hQ : Cert.ReferenceIdeal.prb m' = Q) (hB : ∀ i, (B i).toNat < 512) :
    (Cert.ReferenceIdeal.R m' Cert.ReferenceIdeal.main_v118 : Cert.ReferenceIdeal.S_.Idx → EReal) ix0
      = Ideal.div (∑ b : Fin 8, ((∑ a, ∑ r, ∑ q, missLoss P b a r q) + ∑ u, ∑ a, fix P B Q hB b a u)) (Ideal.ofBits .f32 0x4AC00000#32) := by
  subst hP hB' hQ
  refine (Cert.ReferenceIdeal.result_at m').trans ?_
  refine congrArg (fun z : EReal => Ideal.div z (Ideal.ofBits .f32 0x4AC00000#32)) ?_
  refine Finset.sum_congr rfl fun b _ => ?_
  exact image_sum _ _ _ hB b (fun a r q => (Cert.ReferenceIdeal.R m' Cert.ReferenceIdeal.main_v116 : Cert.ReferenceIdeal.S8x3x512x512.Idx → EReal) (ix4 b a r q))
    (fun a r q t ht hm => Cert.ReferenceIdeal.cell_hit m' b a r q t ht hm) (fun a r q hm => Cert.ReferenceIdeal.cell_miss m' b a r q hm)

theorem algebraic : Cert.algebraic_KernelIdeal_ReferenceIdeal (hKernelIdeal := Cert.KernelIdeal.Gen.facts)
    (hReferenceIdeal := Cert.ReferenceIdeal.Gen.facts) (hPre_coords := Cert.Pre_coords.Gen.facts) := by
  intro m g m' g' hpre hagree
  have hB : ∀ i, (Cert.KernelIdeal.Body.boxes m i).toNat < 512 := fun i => Cert.Loss.coord_lt _ _ _ (hpre 0) i
  have hO := Cert.KernelIdeal.Body.tiles_ok m hB
  refine ⟨fun c => Pipeline.afterTail Cert.KernelIdeal.pcfgs (fun _ => Cert.KernelIdeal.Gen.adm m hO) (Cert.KernelIdeal.Body.data m hO) 0
    (Cert.KernelIdeal.Gen.V0 m) [Cert.KernelIdeal.Gen.hostOps1] c Cert.KernelIdeal.main_v54, ?_, ?_⟩
  · exact θ_run_mono (θ_run_and (Cert.KernelIdeal.Body.launched m g hO) (Cert.KernelIdeal.Body.framed m g hO))
      fun r h c => ⟨(h.1 c).2 Cert.KernelIdeal.main_v54 (by decide : Cert.KernelIdeal.main_v54 ∈ Pipeline.restRefs Cert.KernelIdeal.sig Cert.KernelIdeal.spec0), h.2.1 c⟩
  · refine θ_run_mono (θ_run_and (StableHlo.run_hlo (Cert.ReferenceIdeal.defs (F := Ideal)) (Cert.ReferenceIdeal.main (F := Ideal)) Cert.ReferenceIdeal.line.2 (by decide) (by decide) (by unfold Cert.ReferenceIdeal.line; simp)
      (by intro _ h; (repeat (cases h with | head => rfl | tail _ h => ?_)); exact nomatch h) m' g') (Cert.ReferenceIdeal.framed m' g'))
      fun r h c => ⟨(h.1 c Cert.ReferenceIdeal.main_v118).trans ?_, h.2.1 c⟩
    obtain rfl : c = 0 := Subsingleton.elim (α := Fin 1) _ _
    funext i
    obtain rfl : i = ix0 := funext fun a => a.elim0
    exact (result_eq m' _ _ _ (hagree 0).1 (hagree 0).2.1 (hagree 0).2.2 hB).trans (Cert.KernelIdeal.Body.loss_at m hO hB).symm

end Cert.Loss

end
-- ==== Proof.lean ====
module

public import proofs.«01_k».proof.Defs
public import proofs.«01_k».proof.Proof.KernelFrame
public import proofs.«01_k».proof.Proof.KernelTables
public import proofs.«01_k».proof.Proof.IdealFrame
public import proofs.«01_k».proof.Proof.IdealTables
public import proofs.«01_k».proof.Proof.RefFrame
public import proofs.«01_k».proof.Proof.Words
public import proofs.«01_k».proof.Proof.Algebraic
public import Idealize.ShloMosaic.Adequacy
public import Idealize.ShloMosaic.Init

@[expose] public section

noncomputable section

namespace Cert.Proof

open Idealize.ShloMosaic Idealize.SL.Sem

attribute [local instance] Cert.Pre_coords.Gen.facts

theorem claim : Cert.Claim := ⟨Cert.Kernel.Gen.facts, Cert.KernelIdeal.Gen.facts, Cert.ReferenceIdeal.Gen.facts, Cert.Pre_coords.Gen.facts,
  fun m g h => Cert.Kernel.Body.framed m g (Cert.Kernel.Body.tiles_ok m fun i => Cert.Loss.coord_lt _ _ _ (h 0) i),
  fun m g h => Cert.KernelIdeal.Body.framed m g (Cert.KernelIdeal.Body.tiles_ok m fun i => Cert.Loss.coord_lt _ _ _ (h 0) i),
  fun m g _ => Cert.ReferenceIdeal.framed m g, trivial, Cert.Loss.algebraic⟩

end Cert.Proof

end
